-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_within_clip_KernelIdeal [hPre_within_clip_KernelIdeal : Cert.Pre_within_clip_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_within_clip_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_within_clip_ReferenceIdeal [hPre_within_clip_ReferenceIdeal : Cert.Pre_within_clip_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_within_clip_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_UnclippedIdeal (m : (ℓ : Loc Cert.UnclippedIdeal.nD Cert.UnclippedIdeal.τ Cert.UnclippedIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_within_clip_KernelIdeal [hKernelIdeal : Cert.KernelIdeal.Facts] [hPre_within_clip_KernelIdeal : Cert.Pre_within_clip_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_within_clip_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_within_clip_ReferenceIdeal [hReferenceIdeal : Cert.ReferenceIdeal.Facts] [hPre_within_clip_ReferenceIdeal : Cert.Pre_within_clip_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_within_clip_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_UnclippedIdeal [hUnclippedIdeal : Cert.UnclippedIdeal.Facts] : Prop :=
  ∀ (m : (ℓ : Loc Cert.UnclippedIdeal.nD Cert.UnclippedIdeal.τ Cert.UnclippedIdeal.sig) → Buf (Elt Ideal) ℓ) (g : Dev Cert.UnclippedIdeal.nD → PrngReg), Pre_UnclippedIdeal m →
    θ_run (Cert.UnclippedIdeal.defs (F := Ideal)) (onTc (τ := Cert.UnclippedIdeal.τ) (Cert.UnclippedIdeal.main (F := Ideal))) ⟨m, fun _ => 0, g⟩ (fun r => (∀ c : Dev Cert.UnclippedIdeal.nD,
      r.2.mem ((c.tc : Thread Cert.UnclippedIdeal.nD Cert.UnclippedIdeal.τ).loc Cert.UnclippedIdeal.main_arg0) = m ((c.tc : Thread Cert.UnclippedIdeal.nD Cert.UnclippedIdeal.τ).loc Cert.UnclippedIdeal.main_arg0)
      ∧ r.2.mem ((c.tc : Thread Cert.UnclippedIdeal.nD Cert.UnclippedIdeal.τ).loc Cert.UnclippedIdeal.main_arg1) = m ((c.tc : Thread Cert.UnclippedIdeal.nD Cert.UnclippedIdeal.τ).loc Cert.UnclippedIdeal.main_arg1))
      ∧ r.2.sem = fun _ => 0)

def preserves_Kernel_KernelIdeal : Prop :=
  True

def algebraic_KernelIdeal_ReferenceIdeal_pre_within_clip_KernelIdeal [hKernelIdeal : Cert.KernelIdeal.Facts] [hReferenceIdeal : Cert.ReferenceIdeal.Facts] [hPre_within_clip_KernelIdeal : Cert.Pre_within_clip_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_within_clip_KernelIdeal m →
    (∀ c : Dev Cert.KernelIdeal.nD,
      m ((c.tc : Thread Cert.KernelIdeal.nD Cert.KernelIdeal.τ).loc Cert.KernelIdeal.main_arg0) = Layout.block ⟨2, ![256, 2048]⟩ ⟨2, ![2048, 2048]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 256]⟩ ⟨2, ![2048, 2048]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_UnclippedIdeal [hKernelIdeal : Cert.KernelIdeal.Facts] [hUnclippedIdeal : Cert.UnclippedIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.UnclippedIdeal.nD Cert.UnclippedIdeal.τ Cert.UnclippedIdeal.sig) → Buf (Elt Ideal) ℓ) (g' : Dev Cert.UnclippedIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 2048]⟩ ⟨2, ![2048, 2048]⟩ 0 8 c (m' (((0 : Dev Cert.UnclippedIdeal.nD).tc : Thread Cert.UnclippedIdeal.nD Cert.UnclippedIdeal.τ).loc Cert.UnclippedIdeal.main_arg0))
      ∧ m ((c.tc : Thread Cert.KernelIdeal.nD Cert.KernelIdeal.τ).loc Cert.KernelIdeal.main_arg1) = m' (((0 : Dev Cert.UnclippedIdeal.nD).tc : Thread Cert.UnclippedIdeal.nD Cert.UnclippedIdeal.τ).loc Cert.UnclippedIdeal.main_arg1)) →
    ∃ (v0 : Buf (Elt Ideal) (((0 : Dev Cert.UnclippedIdeal.nD).tc : Thread Cert.UnclippedIdeal.nD Cert.UnclippedIdeal.τ).loc Cert.UnclippedIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 256]⟩ ⟨2, ![2048, 2048]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.UnclippedIdeal.defs (F := Ideal)) (onTc (τ := Cert.UnclippedIdeal.τ) (Cert.UnclippedIdeal.main (F := Ideal))) ⟨m', fun _ => 0, g'⟩ (fun r =>
          r.2.mem (((0 : Dev Cert.UnclippedIdeal.nD).tc : Thread Cert.UnclippedIdeal.nD Cert.UnclippedIdeal.τ).loc Cert.UnclippedIdeal.main_v8) = v0
          ∧ r.2.mem (((0 : Dev Cert.UnclippedIdeal.nD).tc : Thread Cert.UnclippedIdeal.nD Cert.UnclippedIdeal.τ).loc Cert.UnclippedIdeal.main_arg0) = m' (((0 : Dev Cert.UnclippedIdeal.nD).tc : Thread Cert.UnclippedIdeal.nD Cert.UnclippedIdeal.τ).loc Cert.UnclippedIdeal.main_arg0)
          ∧ r.2.mem (((0 : Dev Cert.UnclippedIdeal.nD).tc : Thread Cert.UnclippedIdeal.nD Cert.UnclippedIdeal.τ).loc Cert.UnclippedIdeal.main_arg1) = m' (((0 : Dev Cert.UnclippedIdeal.nD).tc : Thread Cert.UnclippedIdeal.nD Cert.UnclippedIdeal.τ).loc Cert.UnclippedIdeal.main_arg1))

def Claim : Prop :=
  ∃ (hKernel : Cert.Kernel.Facts) (hKernelIdeal : Cert.KernelIdeal.Facts) (hReferenceIdeal : Cert.ReferenceIdeal.Facts) (hUnclippedIdeal : Cert.UnclippedIdeal.Facts) (hPre_within_clip_KernelIdeal : Cert.Pre_within_clip_KernelIdeal.Facts) (hPre_within_clip_ReferenceIdeal : Cert.Pre_within_clip_ReferenceIdeal.Facts),
    quiescent_Kernel (hKernel := hKernel)
    ∧ quiescent_KernelIdeal (hKernelIdeal := hKernelIdeal)
    ∧ quiescent_KernelIdeal_pre_within_clip_KernelIdeal (hKernelIdeal := hKernelIdeal) (hPre_within_clip_KernelIdeal := hPre_within_clip_KernelIdeal)
    ∧ quiescent_ReferenceIdeal (hReferenceIdeal := hReferenceIdeal)
    ∧ quiescent_ReferenceIdeal_pre_within_clip_ReferenceIdeal (hReferenceIdeal := hReferenceIdeal) (hPre_within_clip_ReferenceIdeal := hPre_within_clip_ReferenceIdeal)
    ∧ quiescent_UnclippedIdeal (hUnclippedIdeal := hUnclippedIdeal)
    ∧ preserves_Kernel_KernelIdeal
    ∧ algebraic_KernelIdeal_ReferenceIdeal_pre_within_clip_KernelIdeal (hKernelIdeal := hKernelIdeal) (hReferenceIdeal := hReferenceIdeal) (hPre_within_clip_KernelIdeal := hPre_within_clip_KernelIdeal)
    ∧ algebraic_KernelIdeal_UnclippedIdeal (hKernelIdeal := hKernelIdeal) (hUnclippedIdeal := hUnclippedIdeal)
-- ==== Pre_within_clip_KernelIdeal.lean ====
abbrev S256x2048 : Shape := ⟨2, ![256, 2048]⟩
abbrev S2048x2048 : Shape := ⟨2, ![2048, 2048]⟩
abbrev S_ : Shape := ⟨0, ![]⟩

class Facts : Prop where
  bcast_S_S256x2048 : S_.BroadcastsInDim S256x2048 (![] : Fin 0 → Fin S256x2048.rank)
  reducesTo_S256x2048_S_d0_1 : S256x2048.ReducesTo [0, 1] S_
  h_S_ : 0 < S_.numel
  dot_S256x2048_S2048x2048_S256x2048_1_0_0_1_n_n_wf : DotDims.WF S256x2048 S2048x2048 S256x2048 [1] [0] [0] [1] [] []

variable [Facts]

def dot_S256x2048_S2048x2048_S256x2048_1_0_0_1_n_n : DotDims S256x2048 S2048x2048 S256x2048 where
  lhsContracting := [1]
  rhsContracting := [0]
  lhsNonContracting := [0]
  rhsNonContracting := [1]
  lhsBatch := []
  rhsBatch := []
  wf := dot_S256x2048_S2048x2048_S256x2048_1_0_0_1_n_n_wf
def fn {F : FTy → Type} [FloatOps F] (main_arg0 : FVec F S256x2048 .f32) (main_arg1 : FVec F S2048x2048 .f32) : IVec S_ 1 :=
  let main_v0 : FVec F S256x2048 .f32 := (fun l r => Host.dotGeneral dot_S256x2048_S2048x2048_S256x2048_1_0_0_1_n_n none l r) main_arg0 main_arg1
  let main_v1 : FVec F S256x2048 .f32 := Host.absf main_v0
  let main_cst : FVec F S_ .f32 := constant S_ .f32 0x42700000#32
  let main_v2 : FVec F S256x2048 .f32 := broadcastInDim S256x2048 ![] bcast_S_S256x2048 main_cst
  let main_v3 : IVec S256x2048 1 := cmpf .ole main_v1 main_v2
  let main_c : IVec S_ 1 := constantI S_ 1 1#1
  let main_v4 : IVec S_ 1 := (fun x v => Host.reduce IntOp.andi x v reducesTo_S256x2048_S_d0_1 h_S_) main_v3 main_c
  main_v4
-- ==== Pre_within_clip_ReferenceIdeal.lean ====
abbrev S2048x2048 : Shape := ⟨2, ![2048, 2048]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  dot_S2048x2048_S2048x2048_S2048x2048_1_0_0_1_n_n_wf : DotDims.WF S2048x2048 S2048x2048 S2048x2048 [1] [0] [0] [1] [] []

variable [Facts]

def dot_S2048x2048_S2048x2048_S2048x2048_1_0_0_1_n_n : DotDims S2048x2048 S2048x2048 S2048x2048 where
  lhsContracting := [1]
  rhsContracting := [0]
  lhsNonContracting := [0]
  rhsNonContracting := [1]
  lhsBatch := []
  rhsBatch := []
  wf := dot_S2048x2048_S2048x2048_S2048x2048_1_0_0_1_n_n_wf
def fn {F : FTy → Type} [FloatOps F] (main_arg0 : FVec F S2048x2048 .f32) (main_arg1 : FVec F S2048x2048 .f32) : IVec S_ 1 :=
  let main_v0 : FVec F S2048x2048 .f32 := (fun l r => Host.dotGeneral dot_S2048x2048_S2048x2048_S2048x2048_1_0_0_1_n_n none l r) main_arg0 main_arg1
  let main_v1 : FVec F S2048x2048 .f32 := Host.absf main_v0
  let main_cst : FVec F S_ .f32 := constant S_ .f32 0x42700000#32
  let main_v2 : FVec F S2048x2048 .f32 := broadcastInDim S2048x2048 ![] bcast_S_S2048x2048 main_cst
  let main_v3 : IVec S2048x2048 1 := cmpf .ole main_v1 main_v2
  let main_c : IVec S_ 1 := constantI S_ 1 1#1
  let main_v4 : IVec S_ 1 := (fun x v => Host.reduce IntOp.andi x v reducesTo_S2048x2048_S_d0_1 h_S_) main_v3 main_c
  main_v4
-- ==== Kernel.lean ====
abbrev S256x2048 : Shape := ⟨2, ![256, 2048]⟩
abbrev S2048x2048 : Shape := ⟨2, ![2048, 2048]⟩
abbrev S2048x256 : Shape := ⟨2, ![2048, 256]⟩
abbrev S3x2048x256 : Shape := ⟨3, ![3, 2048, 256]⟩
abbrev S8x256x256 : Shape := ⟨3, ![8, 256, 256]⟩
abbrev S256x256 : Shape := ⟨2, ![256, 256]⟩
abbrev S108544x128 : Shape := ⟨2, ![108544, 128]⟩
abbrev S_ : Shape := ⟨0, ![]⟩
abbrev S3 : Shape := ⟨1, ![3]⟩
abbrev S8 : Shape := ⟨1, ![8]⟩
abbrev S128 : Shape := ⟨1, ![128]⟩
abbrev S1x128 : Shape := ⟨2, ![1, 128]⟩
abbrev S1 : Shape := ⟨1, ![1]⟩
abbrev S1x2048x256 : Shape := ⟨3, ![1, 2048, 256]⟩
abbrev S1x256x256 : Shape := ⟨3, ![1, 256, 256]⟩

abbrev nBuf : Space → Nat
  | .hbm => 3
  | .vmem => 5
  | .smem => 0
  | _ => 0

abbrev bufTy : (tb : Table) → Fin (tcTables nBuf tb) → BufTy
  | .hbm, ⟨0, _⟩ => ⟨S256x2048, .f32⟩
  | .hbm, ⟨1, _⟩ => ⟨S2048x2048, .f32⟩
  | .hbm, ⟨2, _⟩ => ⟨S2048x256, .bf16⟩
  | .local _ .vmem, ⟨0, _⟩ => ⟨S256x2048, .f32⟩
  | .local _ .vmem, ⟨1, _⟩ => ⟨S3x2048x256, .f32⟩
  | .local _ .vmem, ⟨2, _⟩ => ⟨S8x256x256, .bf16⟩
  | .local _ .vmem, ⟨3, _⟩ => ⟨S256x256, .bf16⟩
  | .local _ .vmem, ⟨4, _⟩ => ⟨S108544x128, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  (ofTc nBuf bufTy 1 21 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev barrier0 : Sem sig := 0

abbrev nD : Nat := 8
abbrev τ : Topo := Topo.v7x

variable {F : FTy → Type} [FloatOps F]

abbrev grid0 : Pipeline.Grid := .none

def k0_off1 (d4 : Dev nD) (c0_i32 : BitVec 32) : Fin 2 → Nat :=
  let c0_i32_7 : BitVec 32 := 0#32
  let v4 : BitVec 32 := Dev.word d4
  let c1_i32 : BitVec 32 := 1#32
  let v5 : BitVec 32 := Scalar.divsi v4 c1_i32
  let c8_i32 : BitVec 32 := 8#32
  let v6 : BitVec 32 := Scalar.remsi v5 c8_i32
  let c1_i32_1 : BitVec 32 := 1#32
  let v7 : BitVec 32 := Scalar.addi v6 c1_i32_1
  let v8 : BitVec 32 := Scalar.addi v7 c0_i32
  let c8_i32_2 : BitVec 32 := 8#32
  let v9 : BitVec 32 := Scalar.remsi v8 c8_i32_2
  let c256_i32 : BitVec 32 := 256#32
  let v10 : BitVec 32 := Scalar.muli v9 c256_i32
  ![0, v10.toNat]
def k0_dev1 (d4 : Dev nD) : Nat :=
  let c0_i32_21 : BitVec 32 := 0#32
  let v4 : BitVec 32 := Dev.word d4
  let c1_i32 : BitVec 32 := 1#32
  let v5 : BitVec 32 := Scalar.divsi v4 c1_i32
  let c8_i32 : BitVec 32 := 8#32
  let v6 : BitVec 32 := Scalar.remsi v5 c8_i32
  let c1_i32_17 : BitVec 32 := 1#32
  let v26 : BitVec 32 := Scalar.addi v6 c1_i32_17
  let c8_i32_18 : BitVec 32 := 8#32
  let v27 : BitVec 32 := Scalar.remsi v26 c8_i32_18
  let c1_i32_20 : BitVec 32 := 1#32
  let v28 : BitVec 32 := Scalar.muli v27 c1_i32_20
  let v29 : BitVec 32 := Scalar.addi c0_i32_21 v28
  v29.toNat
def k0_dev2 (d4 : Dev nD) : Nat :=
  let c0_i32_25 : BitVec 32 := 0#32
  let v4 : BitVec 32 := Dev.word d4
  let c1_i32 : BitVec 32 := 1#32
  let v5 : BitVec 32 := Scalar.divsi v4 c1_i32
  let c8_i32 : BitVec 32 := 8#32
  let v6 : BitVec 32 := Scalar.remsi v5 c8_i32
  let c2_i32 : BitVec 32 := 2#32
  let v30 : BitVec 32 := Scalar.addi v6 c2_i32
  let c8_i32_22 : BitVec 32 := 8#32
  let v31 : BitVec 32 := Scalar.remsi v30 c8_i32_22
  let c1_i32_24 : BitVec 32 := 1#32
  let v32 : BitVec 32 := Scalar.muli v31 c1_i32_24
  let v33 : BitVec 32 := Scalar.addi c0_i32_25 v32
  v33.toNat
def k0_dev3 (d4 : Dev nD) : Nat :=
  let c0_i32_29 : BitVec 32 := 0#32
  let v4 : BitVec 32 := Dev.word d4
  let c1_i32 : BitVec 32 := 1#32
  let v5 : BitVec 32 := Scalar.divsi v4 c1_i32
  let c8_i32 : BitVec 32 := 8#32
  let v6 : BitVec 32 := Scalar.remsi v5 c8_i32
  let c3_i32 : BitVec 32 := 3#32
  let v34 : BitVec 32 := Scalar.addi v6 c3_i32
  let c8_i32_26 : BitVec 32 := 8#32
  let v35 : BitVec 32 := Scalar.remsi v34 c8_i32_26
  let c1_i32_28 : BitVec 32 := 1#32
  let v36 : BitVec 32 := Scalar.muli v35 c1_i32_28
  let v37 : BitVec 32 := Scalar.addi c0_i32_29 v36
  v37.toNat
def k0_dev4 (d4 : Dev nD) : Nat :=
  let c0_i32_33 : BitVec 32 := 0#32
  let v4 : BitVec 32 := Dev.word d4
  let c1_i32 : BitVec 32 := 1#32
  let v5 : BitVec 32 := Scalar.divsi v4 c1_i32
  let c8_i32 : BitVec 32 := 8#32
  let v6 : BitVec 32 := Scalar.remsi v5 c8_i32
  let c4_i32 : BitVec 32 := 4#32
  let v38 : BitVec 32 := Scalar.addi v6 c4_i32
  let c8_i32_30 : BitVec 32 := 8#32
  let v39 : BitVec 32 := Scalar.remsi v38 c8_i32_30
  let c1_i32_32 : BitVec 32 := 1#32
  let v40 : BitVec 32 := Scalar.muli v39 c1_i32_32
  let v41 : BitVec 32 := Scalar.addi c0_i32_33 v40
  v41.toNat
def k0_dev5 (d4 : Dev nD) : Nat :=
  let c0_i32_37 : BitVec 32 := 0#32
  let v4 : BitVec 32 := Dev.word d4
  let c1_i32 : BitVec 32 := 1#32
  let v5 : BitVec 32 := Scalar.divsi v4 c1_i32
  let c8_i32 : BitVec 32 := 8#32
  let v6 : BitVec 32 := Scalar.remsi v5 c8_i32
  let c5_i32 : BitVec 32 := 5#32
  let v42 : BitVec 32 := Scalar.addi v6 c5_i32
  let c8_i32_34 : BitVec 32 := 8#32
  let v43 : BitVec 32 := Scalar.remsi v42 c8_i32_34
  let c1_i32_36 : BitVec 32 := 1#32
  let v44 : BitVec 32 := Scalar.muli v43 c1_i32_36
  let v45 : BitVec 32 := Scalar.addi c0_i32_37 v44
  v45.toNat
def k0_dev6 (d4 : Dev nD) : Nat :=
  let c0_i32_41 : BitVec 32 := 0#32
  let v4 : BitVec 32 := Dev.word d4
  let c1_i32 : BitVec 32 := 1#32
  let v5 : BitVec 32 := Scalar.divsi v4 c1_i32
  let c8_i32 : BitVec 32 := 8#32
  let v6 : BitVec 32 := Scalar.remsi v5 c8_i32
  let c6_i32 : BitVec 32 := 6#32
  let v46 : BitVec 32 := Scalar.addi v6 c6_i32
  let c8_i32_38 : BitVec 32 := 8#32
  let v47 : BitVec 32 := Scalar.remsi v46 c8_i32_38
  let c1_i32_40 : BitVec 32 := 1#32
  let v48 : BitVec 32 := Scalar.muli v47 c1_i32_40
  let v49 : BitVec 32 := Scalar.addi c0_i32_41 v48
  v49.toNat
def k0_dev7 (d4 : Dev nD) : Nat :=
  let c0_i32_45 : BitVec 32 := 0#32
  let v4 : BitVec 32 := Dev.word d4
  let c1_i32 : BitVec 32 := 1#32
  let v5 : BitVec 32 := Scalar.divsi v4 c1_i32
  let c8_i32 : BitVec 32 := 8#32
  let v6 : BitVec 32 := Scalar.remsi v5 c8_i32
  let c7_i32 : BitVec 32 := 7#32
  let v50 : BitVec 32 := Scalar.addi v6 c7_i32
  let c8_i32_42 : BitVec 32 := 8#32
  let v51 : BitVec 32 := Scalar.remsi v50 c8_i32_42
  let c1_i32_44 : BitVec 32 := 1#32
  let v52 : BitVec 32 := Scalar.muli v51 c1_i32_44
  let v53 : BitVec 32 := Scalar.addi c0_i32_45 v52
  v53.toNat
def k0_off2 (d4 : Dev nD) : Fin 2 → Nat :=
  let v4 : BitVec 32 := Dev.word d4
  let c1_i32 : BitVec 32 := 1#32
  let v5 : BitVec 32 := Scalar.divsi v4 c1_i32
  let c8_i32 : BitVec 32 := 8#32
  let v6 : BitVec 32 := Scalar.remsi v5 c8_i32
  let c256_i32_71 : BitVec 32 := 256#32
  let v82 : BitVec 32 := Scalar.muli v6 c256_i32_71
  let c0_i32_77 : BitVec 32 := 0#32
  ![v82.toNat, 0]
def k0_dev8 (d4 : Dev nD) : Nat :=
  let c0_i32_76 : BitVec 32 := 0#32
  let v4 : BitVec 32 := Dev.word d4
  let c1_i32 : BitVec 32 := 1#32
  let v5 : BitVec 32 := Scalar.divsi v4 c1_i32
  let c8_i32 : BitVec 32 := 8#32
  let v6 : BitVec 32 := Scalar.remsi v5 c8_i32
  let c1_i32_67 : BitVec 32 := 1#32
  let v77 : BitVec 32 := Scalar.addi v6 c1_i32_67
  let c8_i32_68 : BitVec 32 := 8#32
  let v78 : BitVec 32 := Scalar.remsi v77 c8_i32_68
  let c1_i32_75 : BitVec 32 := 1#32
  let v83 : BitVec 32 := Scalar.muli v78 c1_i32_75
  let v84 : BitVec 32 := Scalar.addi c0_i32_76 v83
  v84.toNat
def k0_dev9 (d4 : Dev nD) : Nat :=
  let c0_i32_107 : BitVec 32 := 0#32
  let v4 : BitVec 32 := Dev.word d4
  let c1_i32 : BitVec 32 := 1#32
  let v5 : BitVec 32 := Scalar.divsi v4 c1_i32
  let c8_i32 : BitVec 32 := 8#32
  let v6 : BitVec 32 := Scalar.remsi v5 c8_i32
  let c2_i32_98 : BitVec 32 := 2#32
  let v113 : BitVec 32 := Scalar.addi v6 c2_i32_98
  let c8_i32_99 : BitVec 32 := 8#32
  let v114 : BitVec 32 := Scalar.remsi v113 c8_i32_99
  let c1_i32_106 : BitVec 32 := 1#32
  let v119 : BitVec 32 := Scalar.muli v114 c1_i32_106
  let v120 : BitVec 32 := Scalar.addi c0_i32_107 v119
  v120.toNat
def k0_dev10 (d4 : Dev nD) : Nat :=
  let c0_i32_138 : BitVec 32 := 0#32
  let v4 : BitVec 32 := Dev.word d4
  let c1_i32 : BitVec 32 := 1#32
  let v5 : BitVec 32 := Scalar.divsi v4 c1_i32
  let c8_i32 : BitVec 32 := 8#32
  let v6 : BitVec 32 := Scalar.remsi v5 c8_i32
  let c3_i32_129 : BitVec 32 := 3#32
  let v149 : BitVec 32 := Scalar.addi v6 c3_i32_129
  let c8_i32_130 : BitVec 32 := 8#32
  let v150 : BitVec 32 := Scalar.remsi v149 c8_i32_130
  let c1_i32_137 : BitVec 32 := 1#32
  let v155 : BitVec 32 := Scalar.muli v150 c1_i32_137
  let v156 : BitVec 32 := Scalar.addi c0_i32_138 v155
  v156.toNat
def k0_dev11 (d4 : Dev nD) : Nat :=
  let c0_i32_169 : BitVec 32 := 0#32
  let v4 : BitVec 32 := Dev.word d4
  let c1_i32 : BitVec 32 := 1#32
  let v5 : BitVec 32 := Scalar.divsi v4 c1_i32
  let c8_i32 : BitVec 32 := 8#32
  let v6 : BitVec 32 := Scalar.remsi v5 c8_i32
  let c4_i32_160 : BitVec 32 := 4#32
  let v185 : BitVec 32 := Scalar.addi v6 c4_i32_160
  let c8_i32_161 : BitVec 32 := 8#32
  let v186 : BitVec 32 := Scalar.remsi v185 c8_i32_161
  let c1_i32_168 : BitVec 32 := 1#32
  let v191 : BitVec 32 := Scalar.muli v186 c1_i32_168
  let v192 : BitVec 32 := Scalar.addi c0_i32_169 v191
  v192.toNat
def k0_dev12 (d4 : Dev nD) : Nat :=
  let c0_i32_200 : BitVec 32 := 0#32
  let v4 : BitVec 32 := Dev.word d4
  let c1_i32 : BitVec 32 := 1#32
  let v5 : BitVec 32 := Scalar.divsi v4 c1_i32
  let c8_i32 : BitVec 32 := 8#32
  let v6 : BitVec 32 := Scalar.remsi v5 c8_i32
  let c5_i32_191 : BitVec 32 := 5#32
  let v221 : BitVec 32 := Scalar.addi v6 c5_i32_191
  let c8_i32_192 : BitVec 32 := 8#32
  let v222 : BitVec 32 := Scalar.remsi v221 c8_i32_192
  let c1_i32_199 : BitVec 32 := 1#32
  let v227 : BitVec 32 := Scalar.muli v222 c1_i32_199
  let v228 : BitVec 32 := Scalar.addi c0_i32_200 v227
  v228.toNat
def k0_dev13 (d4 : Dev nD) : Nat :=
  let c0_i32_231 : BitVec 32 := 0#32
  let v4 : BitVec 32 := Dev.word d4
  let c1_i32 : BitVec 32 := 1#32
  let v5 : BitVec 32 := Scalar.divsi v4 c1_i32
  let c8_i32 : BitVec 32 := 8#32
  let v6 : BitVec 32 := Scalar.remsi v5 c8_i32
  let c6_i32_222 : BitVec 32 := 6#32
  let v257 : BitVec 32 := Scalar.addi v6 c6_i32_222
  let c8_i32_223 : BitVec 32 := 8#32
  let v258 : BitVec 32 := Scalar.remsi v257 c8_i32_223
  let c1_i32_230 : BitVec 32 := 1#32
  let v263 : BitVec 32 := Scalar.muli v258 c1_i32_230
  let v264 : BitVec 32 := Scalar.addi c0_i32_231 v263
  v264.toNat
def k0_dev14 (d4 : Dev nD) : Nat :=
  let c0_i32_253 : BitVec 32 := 0#32
  let v4 : BitVec 32 := Dev.word d4
  let c1_i32 : BitVec 32 := 1#32
  let v5 : BitVec 32 := Scalar.divsi v4 c1_i32
  let c8_i32 : BitVec 32 := 8#32
  let v6 : BitVec 32 := Scalar.remsi v5 c8_i32
  let c7_i32_244 : BitVec 32 := 7#32
  let v284 : BitVec 32 := Scalar.addi v6 c7_i32_244
  let c8_i32_245 : BitVec 32 := 8#32
  let v285 : BitVec 32 := Scalar.remsi v284 c8_i32_245
  let c1_i32_252 : BitVec 32 := 1#32
  let v290 : BitVec 32 := Scalar.muli v285 c1_i32_252
  let v291 : BitVec 32 := Scalar.addi c0_i32_253 v290
  v291.toNat
-- ==== ReferenceIdeal.lean ====
abbrev S2048x2048 : Shape := ⟨2, ![2048, 2048]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S_, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩

abbrev nD : Nat := 1
abbrev τ : Topo := Topo.v7x

variable {F : FTy → Type} [FloatOps F]
-- ==== UnclippedIdeal.lean ====
abbrev S2048x2048 : Shape := ⟨2, ![2048, 2048]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Proof.Common.lean ====
/-
# The kernel's parts: memrefs, cells, values, the schedule of its semaphores

Each of the eight devices multiplies its 256 rows of `x` with the eight column blocks of `w`, applies the gate
`y * logistic y`, and puts the block that is distance `d` ahead of it on the ring into that device's result, as the
row block the sender is numbered by. This module names the pieces: the blocks of the buffers, the semaphore cells,
the values, what each signal and each transfer hands over (the schedule), and what a device owes at each point.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Transfers

@[expose] public section

noncomputable section

namespace Cert.KernelProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy, the schedule's (duties numbered by ring distance), the local copies' -/

abbrev UB : Type := URounds (GSem nD τ sig) (Fin 8)
abbrev UU : Type := UR sig nD τ × (UB × Counters)

local notation "𝕄" => MT nD τ sig Unit (Elt F) ℕ UU ℕ

abbrev EP : Emb (UR sig nD τ) (MT nD τ sig Unit (Elt F) ℕ UU ℕ) := embL
/-- The schedule's copy: the left half of the right factor. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance
/-- The counters of the copies that stay on one device. -/
abbrev EC : UEmb Counters (MT nD τ sig Unit (Elt F) ℕ UU ℕ) := countersEmb

variable (m : (ℓ : Loc nD τ sig) → Buf (Elt F) ℓ) (ρ : Dev nD → PrngReg)

/-! ## The memrefs -/

abbrev xA : Memref sig .tc .hbm S256x2048 .f32 := Memref.whole main_arg0
abbrev wA : Memref sig .tc .hbm S2048x2048 .f32 := Memref.whole main_arg1
abbrev oA : Memref sig .tc .hbm S2048x256 .bf16 := Memref.whole main_v1
abbrev xV : Memref sig .tc .vmem S256x2048 .f32 := Memref.whole cc0_scratch0
abbrev wV : Memref sig .tc .vmem S3x2048x256 .f32 := Memref.whole cc0_scratch1
abbrev sV : Memref sig .tc .vmem S8x256x256 .bf16 := Memref.whole cc0_scratch2
abbrev stV : Memref sig .tc .vmem S256x256 .bf16 := Memref.whole cc0_scratch3
abbrev gV : Memref sig .tc .vmem S108544x128 .f32 := Memref.whole cc0_scratch4

theorem slot_inb : ∀ s : Fin 3, ∀ a, (![s.val, 0, 0] : Fin 3 → ℕ) a + S1x2048x256.size a ≤ S3x2048x256.size a := by decide
theorem send_inb : ∀ d : Fin 8, ∀ a, (![d.val, 0, 0] : Fin 3 → ℕ) a + S1x256x256.size a ≤ S8x256x256.size a := by decide

/-- The rectangle of the `r`-th column block device `c` works on: columns `256 * ((c + r + 1) mod 8)` onward. -/
abbrev wRect (c : Dev nD) (r : Fin 8) : Rect S2048x2048 :=
  Rect.unit (s := S2048x2048) (k0_off1 c (BitVec.ofNat 32 r.val)) S2048x256.size (k0_off1_inb c r)
/-- The rectangle of row block `q` of the result. -/
abbrev oRect (q : Dev nD) : Rect S2048x256 := Rect.unit (s := S2048x256) (k0_off2 q) S256x256.size (k0_off2_inb q)
abbrev slotRect (s : Fin 3) : Rect S3x2048x256 := Rect.unit (s := S3x2048x256) ![s.val, 0, 0] S1x2048x256.size (slot_inb s)
abbrev sendRect (d : Fin 8) : Rect S8x256x256 := Rect.unit (s := S8x256x256) ![d.val, 0, 0] S1x256x256.size (send_inb d)

/-- The `r`-th column block of `w` on device `c`. -/
abbrev wblk (c : Dev nD) (r : Fin 8) : Memref sig .tc .hbm S2048x256 .f32 := wA.slice (wRect c r) (fun _ => rfl)
/-- Row block `q` of the result. -/
abbrev oblk (q : Dev nD) : Memref sig .tc .hbm S256x256 .bf16 := oA.slice (oRect q) (fun _ => rfl)
/-- The three landing places of the column blocks. -/
abbrev slot (s : Fin 3) : Memref sig .tc .vmem S2048x256 .f32 :=
  (wV.slice (slotRect s) (fun _ => rfl)).squeeze S2048x256 squeezes_S1x2048x256_S2048x256
/-- The block to be sent `d` ahead. -/
abbrev sendSl (d : Fin 8) : Memref sig .tc .vmem S256x256 .bf16 :=
  (sV.slice (sendRect d) (fun _ => rfl)).squeeze S256x256 squeezes_S1x256x256_S256x256

/-! ## The semaphores and cells -/

/-- The barrier semaphore of the launch. -/
abbrev barS : Sem sig := (SemArray.scalar (sig.barrier 0 rfl) : Sems sig S_).sem
theorem s3_inb : ∀ s : Fin 3, ∀ a, (![s.val] : Fin 1 → ℕ) a + S1.size a ≤ S3.size a := by decide
theorem s8_inb : ∀ d : Fin 8, ∀ a, (![d.val] : Fin 1 → ℕ) a + S1.size a ≤ S8.size a := by decide
/-- The semaphores the column blocks' copies, the sends and the receives complete on. -/
abbrev copySem (s : Fin 3) : DmaSem sig := ((cc0_scratch6.slice (Rect.unit (s := S3) ![s.val] S1.size (s3_inb s))).squeeze S_ squeezes_S1_S_).sem
abbrev sendSem (d : Fin 8) : DmaSem sig := ((cc0_scratch8.slice (Rect.unit (s := S8) ![d.val] S1.size (s8_inb d))).squeeze S_ squeezes_S1_S_).sem
abbrev recvSem (d : Fin 8) : DmaSem sig := ((cc0_scratch9.slice (Rect.unit (s := S8) ![d.val] S1.size (s8_inb d))).squeeze S_ squeezes_S1_S_).sem
abbrev xSem : DmaSem sig := cc0_scratch5.sem
abbrev ownSem : DmaSem sig := cc0_scratch7.sem

/-- The index of a shared cell of a device: the barrier, the sends, the receives. -/
abbrev CK : Type := Option (Bool × Fin 8)
def csem : CK → SemLoc sig
  | none => .reg barS
  | some (false, d) => .dma (sendSem d)
  | some (true, d) => .dma (recvSem d)
/-- Which shared cell a semaphore is, if any. -/
def kind : SemLoc sig → Option CK
  | .reg s => if s = barS then some none else none
  | .dma s => if h : 5 ≤ s.val ∧ s.val < 13 then some (some (false, ⟨s.val - 5, by omega⟩))
      else if h' : 13 ≤ s.val ∧ s.val < 21 then some (some (true, ⟨s.val - 13, by omega⟩)) else none
theorem kind_csem : ∀ k : CK, kind (csem k) = some k := by decide
theorem kind_copy : ∀ s : Fin 3, kind (.dma (copySem s)) = none := by decide
theorem kind_x : kind (.dma xSem) = none := by decide
theorem kind_own : kind (.dma ownSem) = none := by decide

abbrev barCell (c : Dev nD) : GSem nD τ sig := ((c : Thread nD τ), .reg barS)
abbrev sendCell (c : Dev nD) (d : Fin 8) : GSem nD τ sig := ((c : Thread nD τ), .dma (sendSem d))
abbrev recvCell (c : Dev nD) (d : Fin 8) : GSem nD τ sig := ((c : Thread nD τ), .dma (recvSem d))
abbrev kcell (ck : Dev nD × CK) : GSem nD τ sig := ((ck.1 : Thread nD τ), csem ck.2)

theorem csem_injective : Function.Injective csem := by
  have h : ∀ k k' : CK, csem k = csem k' → k = k' := by decide
  exact fun k k' => h k k'

theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

/-! ## The devices a device addresses -/

/-- The device `d` ahead on the ring. -/
abbrev ahead (c : Dev nD) (d : Fin 8) : Dev nD := (c : Fin 8) + d
/-- The device `d` behind. -/
abbrev behind (c : Dev nD) (d : Fin 8) : Dev nD := (c : Fin 8) - d
theorem behind_ahead (c : Dev nD) (d : Fin 8) : behind (ahead c d) d = c := by revert c d; decide
theorem ahead_behind (c : Dev nD) (d : Fin 8) : ahead (behind c d) d = c := by revert c d; decide

theorem dev1_eq (c : Dev nD) : (⟨k0_dev1 c, k0_dev1_lt c⟩ : Dev nD) = ahead c 1 := Fin.ext (k0_dev1_eq c)
theorem dev2_eq (c : Dev nD) : (⟨k0_dev2 c, k0_dev2_lt c⟩ : Dev nD) = ahead c 2 := Fin.ext (k0_dev2_eq c)
theorem dev3_eq (c : Dev nD) : (⟨k0_dev3 c, k0_dev3_lt c⟩ : Dev nD) = ahead c 3 := Fin.ext (k0_dev3_eq c)
theorem dev4_eq (c : Dev nD) : (⟨k0_dev4 c, k0_dev4_lt c⟩ : Dev nD) = ahead c 4 := Fin.ext (k0_dev4_eq c)
theorem dev5_eq (c : Dev nD) : (⟨k0_dev5 c, k0_dev5_lt c⟩ : Dev nD) = ahead c 5 := Fin.ext (k0_dev5_eq c)
theorem dev6_eq (c : Dev nD) : (⟨k0_dev6 c, k0_dev6_lt c⟩ : Dev nD) = ahead c 6 := Fin.ext (k0_dev6_eq c)
theorem dev7_eq (c : Dev nD) : (⟨k0_dev7 c, k0_dev7_lt c⟩ : Dev nD) = ahead c 7 := Fin.ext (k0_dev7_eq c)
theorem dev8_eq (c : Dev nD) : (⟨k0_dev8 c, k0_dev8_lt c⟩ : Dev nD) = ahead c 1 := Fin.ext (k0_dev8_eq c)
theorem dev9_eq (c : Dev nD) : (⟨k0_dev9 c, k0_dev9_lt c⟩ : Dev nD) = ahead c 2 := Fin.ext (k0_dev9_eq c)
theorem dev10_eq (c : Dev nD) : (⟨k0_dev10 c, k0_dev10_lt c⟩ : Dev nD) = ahead c 3 := Fin.ext (k0_dev10_eq c)
theorem dev11_eq (c : Dev nD) : (⟨k0_dev11 c, k0_dev11_lt c⟩ : Dev nD) = ahead c 4 := Fin.ext (k0_dev11_eq c)
theorem dev12_eq (c : Dev nD) : (⟨k0_dev12 c, k0_dev12_lt c⟩ : Dev nD) = ahead c 5 := Fin.ext (k0_dev12_eq c)
theorem dev13_eq (c : Dev nD) : (⟨k0_dev13 c, k0_dev13_lt c⟩ : Dev nD) = ahead c 6 := Fin.ext (k0_dev13_eq c)
theorem dev14_eq (c : Dev nD) : (⟨k0_dev14 c, k0_dev14_lt c⟩ : Dev nD) = ahead c 7 := Fin.ext (k0_dev14_eq c)

/-! ## The values -/

/-- One block of the result: the gate over the product of a row block of `x` with a column block of `w`. -/
def chunk (x : Vec F S256x2048 .f32) (w : Vec F S2048x256 .f32) : FVec F S256x256 .bf16 :=
  have y : FVec F S256x256 .f32 := matmul dot_S256x2048_S2048x256_S256x256_1_0_0_1_n_n none
    (truncf .bf16 x bitsLt_bf16_f32) (truncf .bf16 w bitsLt_bf16_f32) (constant S256x256 .f32 0x00000000#32)
  truncf .bf16 (mulf y (logistic y)) bitsLt_bf16_f32

/-- Device `c`'s rows of `x`. -/
def xin (c : Dev nD) : Vec F S256x2048 .f32 := xA.view.read (Elt F) (m ((c : Thread nD τ).loc main_arg0))
/-- The `r`-th column block of device `c`'s `w`. -/
def win (c : Dev nD) (r : Fin 8) : Vec F S2048x256 .f32 := (wblk c r).view.read (Elt F) (m ((c : Thread nD τ).loc main_arg1))
/-- The block device `c` computes from its `r`-th column block. -/
def outv (c : Dev nD) (r : Fin 8) : FVec F S256x256 .bf16 := chunk (xin m c) (win m c r)

/-- A block transfer's credit. -/
abbrev N : ℕ := (oblk 0).view.dmaCredit
theorem N_pos : 0 < N := View.dmaCredit_pos _ (by decide)

/-! ## The schedule -/

/-- The signal of the device `d` behind hands over that device's row block `c` of the result. -/
def barPay (c : Dev nD) (d : Fin 8) : sProp 𝕄 := iprop(∃ X, ownsTc (behind c d) (oblk c) fullShare X)
/-- The transfer of the device `d` behind hands over row block `behind c d` of `c`'s result, filled. -/
def recvPay (c : Dev nD) (d : Fin 8) : sProp 𝕄 := ownsTc c (oblk (behind c d)) fullShare (outv m (behind c d) (d - 1))
/-- A finished send hands its place back. -/
def sendPay (c : Dev nD) (d : Fin 8) : sProp 𝕄 := iprop(∃ X, ownsTc c (sendSl d) fullShare X)

omit [FloatOps F] in
instance barPay_storable (c : Dev nD) (d : Fin 8) : BI.Storable (upEmb : UEmb _ 𝕄) (barPay (F := F) c d) := by unfold barPay; infer_instance
instance recvPay_storable (c : Dev nD) (d : Fin 8) : BI.Storable (upEmb : UEmb _ 𝕄) (recvPay (F := F) m c d) := by unfold recvPay; infer_instance
omit [FloatOps F] in
instance sendPay_storable (c : Dev nD) (d : Fin 8) : BI.Storable (upEmb : UEmb _ 𝕄) (sendPay (F := F) c d) := by unfold sendPay; infer_instance

/-- The duties of a shared cell's only round. -/
def dutyOf : Option CK → Finset (Fin 8)
  | some none => Finset.univ.erase 0
  | some (some (_, d)) => if d = 0 then ∅ else {0}
  | none => ∅
def amtOf : Option CK → ℕ
  | some none => 1
  | _ => N
def payOf (c : Dev nD) (d : Fin 8) : Option CK → sProp 𝕄
  | some none => barPay c d
  | some (some (false, e)) => sendPay c e
  | some (some (true, e)) => recvPay m c e
  | none => iprop(emp)

/-- One round: a barrier cell has a unit from each other device, a send or receive cell of a distance other than 0
    one block's credit. -/
def rd : Rounds.Schedule (GSem nD τ sig) (Fin 8) 𝕄 where
  duties g r := if r = 0 ∧ g.1.2 = .tc then dutyOf (kind g.2) else ∅
  unitless _ := False
  amount g _ _ := amtOf (kind g.2)
  payload g _ d := payOf m g.1.1 d (kind g.2)
  amount_pos g _ _ _ := by
    rcases kind g.2 with _ | _ | _
    · exact N_pos
    · exact Nat.one_pos
    · exact N_pos

instance rd_payload_storable (g : GSem nD τ sig) (r : ℕ) (d : Fin 8) :
    BI.Storable (upEmb : UEmb _ 𝕄) ((rd (F := F) m).payload g r d) := by
  show BI.Storable upEmb (payOf m g.1.1 d (kind g.2))
  rcases kind g.2 with _ | _ | ⟨_ | _, e⟩ <;> unfold payOf <;> infer_instance

section Sched
variable (c : Dev nD) (d e : Fin 8)

theorem duties_bar : (rd (F := F) m).duties (barCell c) 0 = Finset.univ.erase 0 := by
  dsimp only [rd]; rw [if_pos ⟨rfl, rfl⟩, show kind (.reg barS) = some none from kind_csem none]; rfl
theorem duties_send (h : d ≠ 0) : (rd (F := F) m).duties (sendCell c d) 0 = {0} := by
  dsimp only [rd]; rw [if_pos ⟨rfl, rfl⟩, show kind (.dma (sendSem d)) = some (some (false, d)) from kind_csem (some (false, d))]
  exact if_neg h
theorem duties_recv (h : d ≠ 0) : (rd (F := F) m).duties (recvCell c d) 0 = {0} := by
  dsimp only [rd]; rw [if_pos ⟨rfl, rfl⟩, show kind (.dma (recvSem d)) = some (some (true, d)) from kind_csem (some (true, d))]
  exact if_neg h
theorem duties_later (g : GSem nD τ sig) : ∀ r, 1 ≤ r → (rd (F := F) m).duties g r = ∅ :=
  fun r hr => by dsimp only [rd]; rw [if_neg fun h => by omega]
/-- A cell of distance 0 is never used. -/
theorem duties_unused (b : Bool) : ∀ r, 0 ≤ r → (rd (F := F) m).duties (kcell (c, some (b, 0))) r = ∅ :=
  fun r _ => by
    dsimp only [rd]; rw [kind_csem (some (b, 0))]
    split
    · simp [dutyOf]
    · rfl

theorem amount_bar : (rd (F := F) m).amount (barCell c) 0 e = 1 := by
  dsimp only [rd]; rw [show kind (.reg barS) = some none from kind_csem none]; rfl
theorem amount_send : (rd (F := F) m).amount (sendCell c d) 0 e = N := by
  dsimp only [rd]; rw [show kind (.dma (sendSem d)) = some (some (false, d)) from kind_csem (some (false, d))]; rfl
theorem amount_recv : (rd (F := F) m).amount (recvCell c d) 0 e = N := by
  dsimp only [rd]; rw [show kind (.dma (recvSem d)) = some (some (true, d)) from kind_csem (some (true, d))]; rfl

theorem expect_bar : (rd (F := F) m).expect (barCell c) 0 = 7 := by
  unfold Schedule.expect Schedule.amountOf
  rw [duties_bar, Finset.sum_congr rfl fun d _ => amount_bar m c d, Finset.sum_const]; rfl
theorem expect_send (h : d ≠ 0) : (rd (F := F) m).expect (sendCell c d) 0 = N := by
  unfold Schedule.expect Schedule.amountOf; rw [duties_send m c d h, Finset.sum_singleton, amount_send]
theorem expect_recv (h : d ≠ 0) : (rd (F := F) m).expect (recvCell c d) 0 = N := by
  unfold Schedule.expect Schedule.amountOf; rw [duties_recv m c d h, Finset.sum_singleton, amount_recv]

theorem payload_bar : (rd (F := F) m).payload (barCell c) 0 d = barPay c d := by
  dsimp only [rd]; rw [show kind (.reg barS) = some none from kind_csem none]; rfl
theorem payload_send : (rd (F := F) m).payload (sendCell c d) 0 e = sendPay c d := by
  dsimp only [rd]; rw [show kind (.dma (sendSem d)) = some (some (false, d)) from kind_csem (some (false, d))]; rfl
theorem payload_recv : (rd (F := F) m).payload (recvCell c d) 0 e = recvPay m c d := by
  dsimp only [rd]; rw [show kind (.dma (recvSem d)) = some (some (true, d)) from kind_csem (some (true, d))]; rfl

/-- What the barrier wait brings: a row block of each other device. -/
theorem rest_bar : bigSep ((rd (F := F) m).duties (barCell c) 0 \ ∅) (fun d => (rd (F := F) m).payload (barCell c) 0 d)
    = bigSep (Finset.univ.erase 0) (fun d => barPay (F := F) c d) := by
  rw [Finset.sdiff_empty, duties_bar]; exact bigSep_congr fun d _ => payload_bar m c d
theorem rest_send (h : d ≠ 0) : bigSep ((rd (F := F) m).duties (sendCell c d) 0 \ ∅) (fun e => (rd (F := F) m).payload (sendCell c d) 0 e)
    = sendPay (F := F) c d := by
  rw [Finset.sdiff_empty, duties_send m c d h, bigSep_singleton, payload_send]
theorem rest_recv (h : d ≠ 0) : bigSep ((rd (F := F) m).duties (recvCell c d) 0 \ ∅) (fun e => (rd (F := F) m).payload (recvCell c d) 0 e)
    = recvPay (F := F) m c d := by
  rw [Finset.sdiff_empty, duties_recv m c d h, bigSep_singleton, payload_recv]

end Sched

/-! ## What a device owes, and the levels -/

/-- What device `c` owes once it has signalled the first `b` distances and sent to the first `r`: a unit to the barrier
    of each further device, a block's credit to the receive cell of each further distance. -/
def owed (c : Dev nD) (b r : ℕ) : CellTallies nD τ sig Unit :=
  (∑ d ∈ Finset.univ.filter (fun d : Fin 8 => b < d.val), tallyAt (barCell (ahead c d)) () 1)
    + ∑ d ∈ Finset.univ.filter (fun d : Fin 8 => r < d.val), tallyAt (recvCell (ahead c d) d) () N

theorem filter_step (b : ℕ) (d : Fin 8) (h : d.val = b + 1) :
    Finset.univ.filter (fun e : Fin 8 => b < e.val) = insert d (Finset.univ.filter (fun e : Fin 8 => b + 1 < e.val)) := by
  ext e
  simp only [Finset.mem_filter, Finset.mem_univ, true_and, Finset.mem_insert, Fin.ext_iff]
  omega
theorem owed_bar (c : Dev nD) (b r : ℕ) (d : Fin 8) (h : d.val = b + 1) :
    owed c b r = owed c (b + 1) r + tallyAt (barCell (ahead c d)) () 1 := by
  unfold owed
  rw [filter_step b d h, Finset.sum_insert (by simp [h]), add_comm (tallyAt _ _ _), add_assoc, add_assoc, add_comm (tallyAt _ _ _)]
theorem owed_recv (c : Dev nD) (b r : ℕ) (d : Fin 8) (h : d.val = r + 1) :
    owed c b r = owed c b (r + 1) + tallyAt (recvCell (ahead c d) d) () N := by
  unfold owed
  rw [filter_step r d h, Finset.sum_insert (by simp [h]), add_comm (tallyAt (recvCell (ahead c d) d) () N), add_assoc]
theorem owed_done (c : Dev nD) : owed c 7 7 = 0 := by
  unfold owed
  rw [Finset.filter_eq_empty_iff.mpr (fun d _ => by omega), Finset.sum_empty, Finset.sum_empty, add_zero]

theorem owed_pos {c : Dev nD} {b r : ℕ} {g : GSem nD τ sig} {u : Unit} (h : 0 < owed c b r g u) :
    (∃ d : Fin 8, b < d.val ∧ g = barCell (ahead c d)) ∨ ∃ d : Fin 8, r < d.val ∧ g = recvCell (ahead c d) d := by
  by_contra hn
  rw [not_or, not_exists, not_exists] at hn
  refine absurd h (Nat.not_lt.mpr (Nat.le_of_eq ?_))
  unfold owed
  rw [Pi.add_apply, Finsupp.add_apply, Finset.sum_apply, Finset.sum_apply, Finsupp.finset_sum_apply, Finsupp.finset_sum_apply]
  have h₁ : ∑ d ∈ Finset.univ.filter (fun d : Fin 8 => b < d.val), (tallyAt (barCell (ahead c d)) () 1 : CellTallies nD τ sig Unit) g u = 0 :=
    Finset.sum_eq_zero fun d hd => by rw [tallyAt_apply, if_neg fun h' => hn.1 d ⟨(Finset.mem_filter.mp hd).2, h'.1⟩]
  have h₂ : ∑ d ∈ Finset.univ.filter (fun d : Fin 8 => r < d.val), (tallyAt (recvCell (ahead c d) d) () N : CellTallies nD τ sig Unit) g u = 0 :=
    Finset.sum_eq_zero fun d hd => by rw [tallyAt_apply, if_neg fun h' => hn.2 d ⟨(Finset.mem_filter.mp hd).2, h'.1⟩]
  rw [h₁, h₂]

def L (g : GSem nD τ sig) : Finset Unit := if g.1.2 = .tc then {()} else ∅
def lvOf : Option CK → ℕ
  | some none => 1
  | some (some (true, _)) => 2
  | _ => 0
/-- Barrier cells at 1, receive cells at 2, everything else at 0. -/
def lv (g : GSem nD τ sig) (_ : Unit) : ℕ := lvOf (kind g.2)

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := by unfold lv; rw [show kind (barCell c).2 = some none from kind_csem none]; rfl
theorem lv_recv (c : Dev nD) (d : Fin 8) : lv (recvCell c d) () = 2 := by
  unfold lv; rw [show kind (recvCell c d).2 = some (some (true, d)) from kind_csem (some (true, d))]; rfl

/-- A semaphore of one device's own copies may be waited for whatever the device owes. -/
theorem mayWait_local (c : Dev nD) (q : DmaSem sig) (hq : kind (.dma q) = none) (b r : ℕ) :
    (levAts L lv : sProp 𝕄) ⊢ MayWait (c : Thread nD τ) (.dma q) () (owed c b r) :=
  MayOwe.of_cut (L := L) (lev := lv) 0 (fun p hp => by rw [Finset.mem_singleton.mp hp, L_tc]; exact Finset.mem_singleton_self _)
    (fun g u hg => by rcases owed_pos hg with ⟨d, -, rfl⟩ | ⟨d, -, rfl⟩ <;> exact Finset.mem_singleton_self _)
    (fun p hp => by rw [Finset.mem_singleton.mp hp]; unfold lv; rw [hq]; exact le_refl 0)
    (fun g u hg => by
      rcases owed_pos hg with ⟨d, -, rfl⟩ | ⟨d, -, rfl⟩
      · rw [lv_bar]; decide
      · rw [lv_recv]; decide)

/-- At its barrier wait a device has signalled everyone: it owes receive credits only. -/
theorem mayWait_bar (c : Dev nD) (r : ℕ) :
    (levAts L lv : sProp 𝕄) ⊢ MayWait (c : Thread nD τ) (.reg barS) () (owed c 7 r) :=
  MayOwe.of_cut (L := L) (lev := lv) 1 (fun p hp => by rw [Finset.mem_singleton.mp hp, L_tc]; exact Finset.mem_singleton_self _)
    (fun g u hg => by rcases owed_pos hg with ⟨d, -, rfl⟩ | ⟨d, -, rfl⟩ <;> exact Finset.mem_singleton_self _)
    (fun p hp => by rw [Finset.mem_singleton.mp hp]; exact Nat.le_of_eq (lv_bar c))
    (fun g u hg => by
      rcases owed_pos hg with ⟨d, hd, rfl⟩ | ⟨d, -, rfl⟩
      · omega
      · rw [lv_recv]; decide)

end Cert.KernelProof

end
-- ==== Proof.Steps.lean ====
/-
# One rule for each kind of step the kernel takes

Each lemma says what one operation of the kernel's text needs and leaves, over the pieces named in `Common`.
-/
module

public import proofs.«01_k».proof.Proof.Common

@[expose] public section

noncomputable section

namespace Cert.KernelProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-- Running `p` on device `c`'s core, to `Q`. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- What device `c` owes once it has signalled `b` distances and sent to `r`. -/
def Ow (c : Dev nD) (b r : ℕ) : sProp 𝕄 := iprop(∃ W, owes (c : Thread nD τ) (owed c b r) W)
/-- The shared cells' invariants, under the names `K`, and that each cell's round has begun. -/
def records (K : Dev nD × CK → ℕ) : sProp 𝕄 :=
  bigSep Finset.univ fun ck => iprop(cellInv ER (rd m) (K ck) (kcell ck) ∗ reached ER (kcell ck) 0)

instance records_persistent (K : Dev nD × CK → ℕ) : BI.Persistent (records (F := F) m K) := by unfold records; infer_instance

theorem records_inv (K : Dev nD × CK → ℕ) (c : Dev nD) (k : CK) : records (F := F) m K ⊢ cellInv ER (rd m) (K (c, k)) (kcell (c, k)) := by
  unfold records
  exact (bigSep_elim (Finset.mem_univ (c, k))).trans (show iprop(cellInv ER (rd m) (K (c, k)) (kcell (c, k)) ∗ reached ER (kcell (c, k)) 0) ⊢ _ from by iintro ⟨H, -⟩; iexact H)
theorem records_reached (K : Dev nD × CK → ℕ) (c : Dev nD) (k : CK) : records (F := F) m K ⊢ reached ER (kcell (c, k)) 0 := by
  unfold records
  exact (bigSep_elim (Finset.mem_univ (c, k))).trans (show iprop(cellInv ER (rd m) (K (c, k)) (kcell (c, k)) ∗ reached ER (kcell (c, k)) 0) ⊢ _ from by iintro ⟨-, H⟩; iexact H)

theorem credit_out (q : Dev nD) : (oblk q).view.dmaCredit = N := rfl
theorem credit_send (d : Fin 8) : (sendSl d).view.dmaCredit = N := rfl

/-- What a memref's elements read is owned. -/
theorem owns_mk (c : Dev nD) {sp : Space} {s : Shape} {e : EltTy} (M : Memref sig .tc sp s e) {q : PosShare TreeShare}
    {f : Buf (Elt F) (M.view.loc (c : Thread nD τ))} {X : s.Idx → Elt F e} (h : M.view.read (Elt F) f = X) :
    (M.view.loc (c : Thread nD τ) ↦[M.view.set]{q} f : sProp 𝕄) ⊢ ownsTc c M q X := by
  unfold ownsTc owns
  iintro H
  iexists f
  isplitr; · ipureintro; exact h
  iexact H

/-- A view's unit axes dropped, read: the reading recast. -/
theorem read_squeeze {κ : Kind} {sp : Space} {s s' : Shape} {e : EltTy} (v : View sig κ sp s e) (h : s'.numel = s.numel) (h' : s.ShapeCasts s')
    (f : v.ty.Contents (Elt F)) : (v.reshape s' h).read (Elt F) f = shapeCast s' (v.read (Elt F) f) h' := rfl

section
variable {α : Type} {Q : α → sProp (MT nD τ sig Unit (Elt F) ℕ UU ℕ)} (c : Dev nD)

/-- A copy that stays on the device starts: it will hand back its source and its destination filled. -/
theorem step_copy {sp sp' : Space} {s : Shape} {e : EltTy} {src : Memref sig .tc sp s e} {dst : Memref sig .tc sp' s e} {sm : DmaSem sig}
    {hsrc : src.view.WordExact} {hdst : dst.view.WordExact} {hsem : DmaTarget.Typed sp (.dma sm) (.here dst : DmaTarget nD τ sig .tc sp' s e)}
    {k : PUnit → Prog (TpuEff nD τ sig (Elt F) Λ₀ .tc) α} {q : PosShare TreeShare} {X : s.Idx → Elt F e} (h0 : 0 < s.numel) :
    iprop(ownsTc c src q X ∗ (∃ Y, ownsTc c dst fullShare Y) ∗ semVal ((c : Thread nD τ), .dma sm) 0)
      ⊢ iprop((Transfers.Flight EC (c : Thread nD τ) (.dma sm) () dst.view.dmaCredit iprop(ownsTc c dst fullShare X ∗ ownsTc c src q X) -∗ wpc c (k ⟨⟩) Q)
          -∗ wpc c (.op (.enqueueDma src (.here dst) (.dma sm) hsrc hdst hsem) k) Q) := by
  unfold ownsTc
  iintro ⟨Hs, ⟨%Y, Hd⟩, Hv⟩ Hk
  unfold owns
  icases Hs with ⟨%fs, %hfs, Hs⟩
  icases Hd with ⟨%fd, -, Hd⟩
  iapply (Transfers.wp_dmaLocal EC 𝒱₀ (c : Thread nD τ) none (via := .same) (src := src) (dst := dst) (fs := fs) (fd := fd) (q := q) (Sd := dst.view.set) ()
    dst.view.dmaCredit rfl (View.dmaCredit_pos _ h0) (Finset.Subset.refl _)) $$ [Hs Hd Hv]
  · isplitl [Hs]; · iexact Hs
    isplitl [Hd] <;> iassumption
  iintro Hf
  iapply Hk
  iapply (Transfers.Flight_mono EC (c : Thread nD τ) ?_) $$ Hf
  iintro ⟨Hd, Hs⟩
  isplitl [Hd]
  · iexists (dst.view.write (Elt F) fd (src.view.read (Elt F) fs) Finset.univ)
    isplitr; · ipureintro; rw [View.read_write_univ, hfs]
    iexact Hd
  · iexists fs
    isplitr; · ipureintro; exact hfs
    iexact Hs

/-- The wait for such a copy. -/
theorem step_wait {sp sp' : Space} {s s' : Shape} {e e' : EltTy} {sm : DmaSem sig} {srcw : Memref sig .tc sp' s' e'} {dstw : Memref sig .tc sp s e}
    {hsrc : srcw.view.WordExact} {hdst : dstw.view.WordExact} {k : PUnit → Prog (TpuEff nD τ sig (Elt F) Λ₀ .tc) α} {D : sProp 𝕄} {b r : ℕ}
    (hk : kind (.dma sm) = none) :
    iprop(Transfers.Flight EC (c : Thread nD τ) (.dma sm) () dstw.view.dmaCredit D ∗ Ow c b r ∗ levAts L lv)
      ⊢ iprop(((D ∗ semVal ((c : Thread nD τ), .dma sm) 0 ∗ Ow c b r) -∗ wpc c (k ⟨⟩) Q)
          -∗ wpc c (.op (.waitDma2 sm srcw dstw hsrc hdst) k) Q) := by
  unfold Ow
  iintro ⟨Hf, ⟨%W, HO⟩, #Hlev⟩ Hk
  iapply (Transfers.wp_waitLocalO EC 𝒱₀ (c : Thread nD τ) none () rfl (O := owed c b r) (W := W)) $$ [Hf HO]
  · isplitl [Hf]; · iexact Hf
    isplitl [HO]; · iexact HO
    iapply (mayWait_local c sm hk b r); iexact Hlev
  iintro ⟨HD, Hv, HO⟩
  iapply Hk
  isplitl [HD]; · iexact HD
  isplitl [Hv]; · iexact Hv
  iexists _; iexact HO

/-- A load of a slice's elements reads what the slice holds. -/
theorem step_load {cs : CoreSpace} {s : Shape} {e : EltTy} {M : Memref sig .tc cs s e} {r : Rect s} (hr : ∀ a, r.stride a = 1) {hl : M.view.LoadsAt r.toLoadRect}
    {k : (r.shape.Idx → Elt F e) → Prog (TpuEff nD τ sig (Elt F) Λ₀ .tc) α} {q : PosShare TreeShare} {X : r.shape.Idx → Elt F e} :
    ownsTc c (M.slice r hr) q X
      ⊢ iprop((ownsTc c (M.slice r hr) q X -∗ wpc c (k X) Q) -∗ wpc c (.op (.load M r.toLoadRect hl) k) Q) := by
  unfold ownsTc owns
  iintro ⟨%f, %hf, H⟩ Hk
  iapply (wp_load_rect 𝒱₀ (c : Thread nD τ) none Set.univ (m := M) (r := r) (q := q) (f := f) (Finset.Subset.refl _)) $$ H
  iintro H
  rw [show (M.access r).read (Elt F) f = X from hf]
  iapply Hk
  iexists f
  isplitr; · ipureintro; exact hf
  iexact H

/-- A store over a slice's elements. -/
theorem step_store {cs : CoreSpace} {s : Shape} {e : EltTy} {M : Memref sig .tc cs s e} {r : Rect s} (hr : ∀ a, r.stride a = 1) {w : r.shape.Idx → Elt F e}
    {hx : (M.access r).Stores Finset.univ} {hm : (Finset.univ : Finset r.shape.Idx) = Finset.univ ∨ ∀ a, r.stride a = 1}
    {k : PUnit → Prog (TpuEff nD τ sig (Elt F) Λ₀ .tc) α} :
    iprop(∃ Y, ownsTc c (M.slice r hr) fullShare Y)
      ⊢ iprop((ownsTc c (M.slice r hr) fullShare w -∗ wpc c (k ⟨⟩) Q) -∗ wpc c (.op (.store M r w Finset.univ hx hm) k) Q) := by
  unfold ownsTc owns
  iintro ⟨%Y, %f, %hf, H⟩ Hk
  iapply (wp_store 𝒱₀ (c : Thread nD τ) none Set.univ (m := M) (r := r) (w := w) (Mk := Finset.univ) (f := f) (S := (M.access r).set) (View.setOn_subset_set _ _)) $$ H
  iintro H
  iapply Hk
  iexists ((M.access r).write (Elt F) f w Finset.univ)
  isplitr; · ipureintro; exact View.read_write_univ ..
  iexact H

/-- A load through a slot's place reads the block the slot holds, one unit axis more. -/
theorem step_load_slot (s : Fin 3) {hl : wV.view.LoadsAt (slotRect s).toLoadRect}
    {k : (S1x2048x256.Idx → Elt F .f32) → Prog (TpuEff nD τ sig (Elt F) Λ₀ .tc) α} {X : S2048x256.Idx → Elt F .f32} :
    ownsTc c (slot s) fullShare X
      ⊢ iprop((∀ v : S1x2048x256.Idx → Elt F .f32, ⌜shapeCast S2048x256 v shapeCasts_S1x2048x256_S2048x256 = X⌝ -∗ ownsTc c (slot s) fullShare X -∗ wpc c (k v) Q)
          -∗ wpc c (.op (.load wV (slotRect s).toLoadRect hl) k) Q) := by
  unfold ownsTc owns
  iintro ⟨%f, %hf, H⟩ Hk
  iapply (wp_load_rect 𝒱₀ (c : Thread nD τ) none Set.univ (m := wV) (r := slotRect s) (q := fullShare) (f := f) (S := (slot s).view.set)
    (by rw [View.set_reshape])) $$ H
  iintro H
  iapply Hk $$ %_ %(show shapeCast S2048x256 ((wV.access (slotRect s)).read (Elt F) f) shapeCasts_S1x2048x256_S2048x256 = X from hf)
  iexists f
  isplitr; · ipureintro; exact hf
  iexact H

/-- A load through a send place, of a value nobody uses. -/
theorem step_load_send (d : Fin 8) {hl : sV.view.LoadsAt (sendRect d).toLoadRect}
    {k : (S1x256x256.Idx → Elt F .bf16) → Prog (TpuEff nD τ sig (Elt F) Λ₀ .tc) α} :
    iprop(∃ X, ownsTc c (sendSl d) fullShare X)
      ⊢ iprop((∀ v : S1x256x256.Idx → Elt F .bf16, (∃ X, ownsTc c (sendSl d) fullShare X) -∗ wpc c (k v) Q)
          -∗ wpc c (.op (.load sV (sendRect d).toLoadRect hl) k) Q) := by
  unfold ownsTc owns
  iintro ⟨%X, %f, %hf, H⟩ Hk
  iapply (wp_load_rect 𝒱₀ (c : Thread nD τ) none Set.univ (m := sV) (r := sendRect d) (q := fullShare) (f := f) (S := (sendSl d).view.set)
    (by rw [View.set_reshape])) $$ H
  iintro H
  iapply Hk
  iexists X
  iexists f
  isplitr; · ipureintro; exact hf
  iexact H

/-- A store through a send place. -/
theorem step_store_send (d : Fin 8) {w : S1x256x256.Idx → Elt F .bf16} {hx : (sV.access (sendRect d)).Stores Finset.univ}
    {hm : (Finset.univ : Finset (sendRect d).shape.Idx) = Finset.univ ∨ ∀ a, (sendRect d).stride a = 1}
    {k : PUnit → Prog (TpuEff nD τ sig (Elt F) Λ₀ .tc) α} :
    iprop(∃ X, ownsTc c (sendSl d) fullShare X)
      ⊢ iprop((ownsTc c (sendSl d) fullShare (shapeCast S256x256 w shapeCasts_S1x256x256_S256x256) -∗ wpc c (k ⟨⟩) Q)
          -∗ wpc c (.op (.store sV (sendRect d) w Finset.univ hx hm) k) Q) := by
  unfold ownsTc owns
  iintro ⟨%X, %f, %hf, H⟩ Hk
  iapply (wp_store 𝒱₀ (c : Thread nD τ) none Set.univ (m := sV) (r := sendRect d) (w := w) (Mk := Finset.univ) (f := f) (S := (sendSl d).view.set)
    (by rw [View.set_reshape]; exact View.setOn_subset_set _ _)) $$ H
  iintro H
  iapply Hk
  iexists ((sV.access (sendRect d)).write (Elt F) f w Finset.univ)
  isplitr
  · ipureintro
    rw [read_squeeze, View.read_write_univ]
  iexact H

/-- A signal to the device `d` ahead: this device's row block of that number goes with it. -/
theorem step_signal (K : Dev nD × CK → ℕ) (d : Fin 8) (n : Dev nD) (hn : n = ahead c d) {b r : ℕ} (hd : d.val = b + 1)
    {k : PUnit → Prog (TpuEff nD τ sig (Elt F) Λ₀ .tc) α} :
    iprop(records m K ∗ Ow c b r ∗ dutyTok ER (barCell (ahead c d)) 0 d ∗ (∃ X, ownsTc c (oblk (ahead c d)) fullShare X))
      ⊢ iprop((Ow c (b + 1) r -∗ wpc c (k ⟨⟩) Q) -∗ wpc c (.op (.semSignal (n : Thread nD τ) barS 1) k) Q) := by
  subst hn
  unfold Ow
  iintro ⟨#HK, ⟨%W, HO⟩, Ht, Hp⟩ Hk
  iapply (Rounds.wp_signal 𝒱₀ ER (rd m) (c : Thread nD τ) none (dst := (ahead c d : Thread nD τ)) (κ := K (ahead c d, none))
      (d := d) (by rw [duties_bar, Finset.mem_erase]; exact ⟨fun h => by simp [h] at hd, Finset.mem_univ _⟩)
      (amount_bar m (ahead c d) d) () (owed c (b + 1) r) (owed_bar c b r d hd))
    $$ [HO Ht Hp]
  · isplitr; · iapply (records_inv m K (ahead c d) none); iexact HK
    isplitl [HO]; · iexact HO
    isplitl [Ht]; · iexact Ht
    isplitl [Hp]
    · rw [payload_bar]; unfold barPay; rw [behind_ahead]; iexact Hp
    iapply (records_reached m K (ahead c d) none); iexact HK
  iintro HO
  iapply Hk
  iexists W; iexact HO

/-- The barrier wait: a row block of each other device. -/
theorem step_barrier (K : Dev nD × CK → ℕ) {r : ℕ} {k : PUnit → Prog (TpuEff nD τ sig (Elt F) Λ₀ .tc) α} :
    iprop(records m K ∗ cred (tallyAt (barCell c) () 7) ∗ Ow c 7 r ∗ levAts L lv ∗ atPos ER (barCell c) 0 ∅ 0)
      ⊢ iprop(((Ow c 7 r ∗ semVal (barCell c) 0 ∗ bigSep (Finset.univ.erase 0) (fun d => barPay (F := F) c d)) -∗ wpc c (k ⟨⟩) Q)
          -∗ wpc c (.op (.semWait barS 7) k) Q) := by
  unfold Ow
  iintro ⟨#HK, Hc, ⟨%W, HO⟩, #Hlev, Hat⟩ Hk
  ihave #HI := (records_inv m K c none) $$ HK
  iapply (Rounds.wp_wait_rest_token 𝒱₀ ER (rd m) (c : Thread nD τ) none (κ := K (c, none))
      (wpE_semWait_eq 𝒱₀ (c : Thread nD τ) none Set.univ) (Set.mem_univ _) () (O := owed c 7 r) (W := W) (R := 0) (m := 0) (T := ∅)
      (by rw [expect_bar])) $$ [Hc HO Hat]
  · isplitr; · iexact HI
    isplitl [Hc]; · iexact Hc
    isplitl [HO]; · iexact HO
    isplitr; · iapply (mayWait_bar c r); iexact Hlev
    iexact Hat
  iintro ⟨HO, Hat, -, Hpay⟩
  ihave Hp := (Entails.of_eq (rest_bar m c)) $$ Hpay
  imod (Rounds.cell_close ER (rd m) (Set.mem_univ (K (c, none))) (fun h => h) (R := 0 + 1) (duties_later m (barCell c))) $$ [Hat] with Hz
  · isplitr; · iexact HI
    iexact Hat
  iapply Hk
  isplitl [HO]; · iexists _; iexact HO
  isplitl [Hz] <;> iassumption

/-- A send to the device `d` ahead. -/
theorem step_send (K : Dev nD × CK → ℕ) (d : Fin 8) (n : Dev nD) (hn : n = ahead c d) {b r : ℕ} (hd : d.val = r + 1)
    {hsc : (oblk c : Memref sig (Dev.tc n : Thread nD τ).2.kind .hbm S256x256 .bf16).view.ref.isScScratch = false}
    {hsrc : (sendSl d).view.WordExact} {hdst : (oblk c).view.WordExact}
    {hsem : DmaTarget.Typed .vmem (.dma (recvSem d)) (.remote (Dev.tc n : Thread nD τ) (oblk c) (.dma (sendSem d)) hsc : DmaTarget nD τ sig .tc .hbm S256x256 .bf16)}
    {k : PUnit → Prog (TpuEff nD τ sig (Elt F) Λ₀ .tc) α} :
    iprop(records m K ∗ ownsTc c (sendSl d) fullShare (outv m c (d - 1)) ∗ (∃ X, ownsTc (ahead c d) (oblk c) fullShare X) ∗ Ow c b r
        ∗ dutyTok ER (sendCell c d) 0 0 ∗ dutyTok ER (recvCell (ahead c d) d) 0 0)
      ⊢ iprop(((cred (tallyAt (sendCell c d) () N) ∗ Ow c b (r + 1)) -∗ wpc c (k ⟨⟩) Q)
          -∗ wpc c (.op (.enqueueDma (sendSl d) (.remote (Dev.tc n : Thread nD τ) (oblk c) (.dma (sendSem d)) hsc) (.dma (recvSem d)) hsrc hdst hsem) k) Q) := by
  subst hn
  have h0 : d ≠ 0 := fun h => by simp [h] at hd
  unfold Ow
  iintro ⟨#HK, Hs, ⟨%X, Hd⟩, ⟨%W, HO⟩, Hts, Htr⟩ Hk
  ihave Hs := (show ownsTc c (sendSl d) fullShare (outv m c (d - 1)) ⊢ iprop(∃ f, ⌜(sendSl d).view.read (Elt F) f = outv m c (d - 1)⌝
    ∗ ((sendSl d).view.loc (c : Thread nD τ) ↦[(sendSl d).view.set]{fullShare} f)) from .rfl) $$ Hs
  ihave Hd := (show ownsTc (ahead c d) (oblk c) fullShare X ⊢ iprop(∃ f, ⌜(oblk c).view.read (Elt F) f = X⌝
    ∗ ((oblk c).view.loc (ahead c d : Thread nD τ) ↦[(oblk c).view.set]{fullShare} f)) from .rfl) $$ Hd
  icases Hs with ⟨%fs, %hfs, Hs⟩
  icases Hd with ⟨%fd, -, Hd⟩
  have hpay : ((oblk c).view.loc (ahead c d : Thread nD τ) ↦[(oblk c).view.set]{fullShare}
      ((oblk c).view.write (Elt F) fd ((sendSl d).view.read (Elt F) fs) Finset.univ) : sProp 𝕄) ⊢ recvPay m (ahead c d) d := by
    unfold recvPay
    rw [behind_ahead, ← hfs]
    exact owns_mk (ahead c d) (oblk c) (View.read_write_univ ..)
  have hpay' : ((sendSl d).view.loc (c : Thread nD τ) ↦[(sendSl d).view.set]{fullShare} fs : sProp 𝕄) ⊢ sendPay c d := by
    unfold sendPay
    iintro H
    iexists (outv m c (d - 1))
    iapply (owns_mk c (sendSl d) hfs) $$ H
  iapply (Rounds.wp_send_pointsTo 𝒱₀ ER (rd m) (c : Thread nD τ) none (c' := (ahead c d : Thread nD τ)) (src := sendSl d) (dst := oblk c)
    (sS := .dma (sendSem d)) (sem := .dma (recvSem d)) (κ₁ := K (c, some (false, d))) (κ₂ := K (ahead c d, some (true, d)))
    (r₁ := 0) (r₂ := 0) (d₁ := 0) (d₂ := 0) (fs := fs) (fd := fd)
    (by rw [duties_send m c d h0]; exact Finset.mem_singleton_self _) (by rw [duties_recv m _ d h0]; exact Finset.mem_singleton_self _)
    () () N (credit_out c) (amount_send m c d 0) (amount_recv m (ahead c d) d 0) (owed c b (r + 1)) (owed_recv c b r d hd) (W := W)
    (by rw [payload_send]; exact hpay') (by rw [payload_recv]; exact hpay)) $$ [Hs Hd HO Hts Htr]
  · isplitr; · iapply (records_inv m K c (some (false, d))); iexact HK
    isplitr; · iapply (records_inv m K (ahead c d) (some (true, d))); iexact HK
    isplitl [Hs]; · iexact Hs
    isplitl [Hd]; · iexact Hd
    isplitl [HO]; · iexact HO
    isplitl [Hts]; · iexact Hts
    isplitr; · iapply (records_reached m K c (some (false, d))); iexact HK
    isplitl [Htr]; · iexact Htr
    iapply (records_reached m K (ahead c d) (some (true, d))); iexact HK
  iintro ⟨Hc, HO⟩
  iapply Hk
  isplitl [Hc]; · iexact Hc
  iexists W; iexact HO

/-- The wait for a block from the device `d` behind. -/
theorem step_recv (K : Dev nD × CK → ℕ) (d : Fin 8) (h0 : d ≠ 0) {sp sp' : Space} {s s' : Shape} {e e' : EltTy} {srcw : Memref sig .tc sp' s' e'} {dstw : Memref sig .tc sp s e}
    {hsrc : srcw.view.WordExact} {hdst : dstw.view.WordExact} {k : PUnit → Prog (TpuEff nD τ sig (Elt F) Λ₀ .tc) α} (hN : dstw.view.dmaCredit = N) :
    iprop(records m K ∗ cred (tallyAt (recvCell c d) () N) ∗ Ow c 7 7 ∗ atPos ER (recvCell c d) 0 ∅ 0)
      ⊢ iprop(((Ow c 7 7 ∗ semVal (recvCell c d) 0 ∗ recvPay m c d) -∗ wpc c (k ⟨⟩) Q)
          -∗ wpc c (.op (.waitDma2 (recvSem d) srcw dstw hsrc hdst) k) Q) := by
  unfold Ow
  rw [owed_done]
  iintro ⟨#HK, Hc, ⟨%W, HO⟩, Hat⟩ Hk
  ihave #HI := (records_inv m K c (some (true, d))) $$ HK
  rw [← hN]
  iapply (Rounds.wp_wait_rest_token 𝒱₀ ER (rd m) (c : Thread nD τ) none (κ := K (c, some (true, d)))
      (wpE_waitDma2_eq 𝒱₀ (c : Thread nD τ) none Set.univ) (Set.mem_univ _) () (O := 0) (W := W) (R := 0) (m := 0) (T := ∅)
      (by rw [Nat.zero_add, expect_recv m c d h0, hN])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_recv m c d h0)) $$ Hpay
  imod (Rounds.cell_close ER (rd m) (Set.mem_univ (K (c, some (true, d)))) (fun h => h) (R := 0 + 1) (duties_later m (recvCell c d))) $$ [Hat] with Hz
  · isplitr; · iexact HI
    iexact Hat
  iapply Hk
  isplitl [HO]; · iexists _; iexact HO
  isplitl [Hz] <;> iassumption

/-- The wait for a finished send. -/
theorem step_sent (K : Dev nD × CK → ℕ) (d : Fin 8) (h0 : d ≠ 0) {sp sp' : Space} {s s' : Shape} {e e' : EltTy} {srcw : Memref sig .tc sp' s' e'} {dstw : Memref sig .tc sp s e}
    {hsrc : srcw.view.WordExact} {hdst : dstw.view.WordExact} {k : PUnit → Prog (TpuEff nD τ sig (Elt F) Λ₀ .tc) α} (hN : dstw.view.dmaCredit = N) :
    iprop(records m K ∗ cred (tallyAt (sendCell c d) () N) ∗ Ow c 7 7 ∗ atPos ER (sendCell c d) 0 ∅ 0)
      ⊢ iprop(((Ow c 7 7 ∗ semVal (sendCell c d) 0 ∗ sendPay (F := F) c d) -∗ wpc c (k ⟨⟩) Q)
          -∗ wpc c (.op (.waitDma2 (sendSem d) srcw dstw hsrc hdst) k) Q) := by
  unfold Ow
  rw [owed_done]
  iintro ⟨#HK, Hc, ⟨%W, HO⟩, Hat⟩ Hk
  ihave #HI := (records_inv m K c (some (false, d))) $$ HK
  rw [← hN]
  iapply (Rounds.wp_wait_rest_token 𝒱₀ ER (rd m) (c : Thread nD τ) none (κ := K (c, some (false, d)))
      (wpE_waitDma2_eq 𝒱₀ (c : Thread nD τ) none Set.univ) (Set.mem_univ _) () (O := 0) (W := W) (R := 0) (m := 0) (T := ∅)
      (by rw [Nat.zero_add, expect_send m c d h0, hN])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_send m c d h0)) $$ Hpay
  imod (Rounds.cell_close ER (rd m) (Set.mem_univ (K (c, some (false, d)))) (fun h => h) (R := 0 + 1) (duties_later m (sendCell c d))) $$ [Hat] with Hz
  · isplitr; · iexact HI
    iexact Hat
  iapply Hk
  isplitl [HO]; · iexists _; iexact HO
  isplitl [Hz] <;> iassumption

/-- A cell of distance 0, never used, is closed as it stands. -/
theorem close_unused (K : Dev nD × CK → ℕ) (b : Bool) {α : Type} {p : Prog (TpuEff nD τ sig (Elt F) Λ₀ .tc) α} {Q : α → sProp 𝕄} :
    iprop(records m K ∗ atPos ER (kcell (c, some (b, 0))) 0 ∅ 0)
      ⊢ iprop((semVal (kcell (c, some (b, 0))) 0 -∗ wpc c p Q) -∗ wpc c p Q) := by
  iintro ⟨#HK, Hat⟩ Hk
  ihave #HI := (records_inv m K c (some (b, 0))) $$ HK
  imod (Rounds.cell_close ER (rd m) (Set.mem_univ (K (c, some (b, 0)))) (fun h => h) (R := 0) (duties_unused m c b)) $$ [Hat] with Hz
  · isplitr; · iexact HI
    iexact Hat
  iapply Hk; iexact Hz

end

end Cert.KernelProof

end
-- ==== Proof.Moves.lean ====
/-
# What a device holds while the body runs

The resources of a device's body by name, and the body's steps over them.
-/
module

public import proofs.«01_k».proof.Proof.Steps
public import Idealize.ShloMosaic.Lib.Pipeline.Value

@[expose] public section

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## What a device holds -/

/-- The `r`-th column block of `w`, in place. -/
def Wb (c : Dev nD) (r : Fin 8) : sProp 𝕄 := ownsTc c (wblk c r) fullShare (win m c r)
/-- A landing place, whatever it holds; and holding the `r`-th column block. -/
def Sl (c : Dev nD) (s : Fin 3) : sProp 𝕄 := iprop(∃ Y, ownsTc c (slot s) fullShare Y)
def Sw (c : Dev nD) (s : Fin 3) (r : Fin 8) : sProp 𝕄 := ownsTc c (slot s) fullShare (win m c r)
/-- A landing place's semaphore at rest. -/
def Cz (c : Dev nD) (s : Fin 3) : sProp 𝕄 := semVal ((c : Thread nD τ), .dma (copySem s)) 0
/-- The `r`-th column block on its way to a landing place. -/
def Fl (c : Dev nD) (r : Fin 8) (s : Fin 3) : sProp 𝕄 :=
  Transfers.Flight EC (c : Thread nD τ) (.dma (copySem s)) () (slot s).view.dmaCredit iprop(Sw m c s r ∗ Wb m c r)
/-- What goes with the signal `d` ahead. -/
def Sg (c : Dev nD) (d : Fin 8) : sProp 𝕄 :=
  iprop(dutyTok ER (barCell (ahead c d)) 0 d ∗ (∃ X, ownsTc c (oblk (ahead c d)) fullShare X))
/-- The send place `d`, holding the block meant for the device `d` ahead. -/
def Sf (c : Dev nD) (d : Fin 8) : sProp 𝕄 := ownsTc c (sendSl d) fullShare (outv m c (d - 1))
/-- The place the send `d` ahead writes. -/
def Dst (c : Dev nD) (d : Fin 8) : sProp 𝕄 := iprop(∃ X, ownsTc (ahead c d) (oblk c) fullShare X)
/-- The right to send `d` ahead. -/
def Go (c : Dev nD) (d : Fin 8) : sProp 𝕄 := iprop(dutyTok ER (sendCell c d) 0 0 ∗ dutyTok ER (recvCell (ahead c d) d) 0 0)
/-- The credits of the send's and the receive's completion, and the rights to wait for them. -/
def Sc (c : Dev nD) (d : Fin 8) : sProp 𝕄 := cred (tallyAt (sendCell c d) () N)
def Rc (c : Dev nD) (d : Fin 8) : sProp 𝕄 := cred (tallyAt (recvCell c d) () N)
def Sp (c : Dev nD) (d : Fin 8) : sProp 𝕄 := atPos ER (sendCell c d) 0 ∅ 0
def Rp (c : Dev nD) (d : Fin 8) : sProp 𝕄 := atPos ER (recvCell c d) 0 ∅ 0
/-- What a wait for a send or a receive leaves. -/
def Sz (c : Dev nD) (d : Fin 8) : sProp 𝕄 := iprop(semVal (sendCell c d) 0 ∗ sendPay (F := F) c d)
def Rz (c : Dev nD) (d : Fin 8) : sProp 𝕄 := iprop(semVal (recvCell c d) 0 ∗ recvPay m c d)
/-- The whole `x` in its two places, and the copy between them. -/
def Xa (c : Dev nD) : sProp 𝕄 := ownsTc c xA fullShare (xin m c)
def Xv (c : Dev nD) : sProp 𝕄 := ownsTc c xV fullShare (xin m c)
def Fx (c : Dev nD) : sProp 𝕄 := Transfers.Flight EC (c : Thread nD τ) (.dma xSem) () xV.view.dmaCredit iprop(Xv m c ∗ Xa m c)
/-- The device's own block's copy into the result. -/
def Fo (c : Dev nD) : sProp 𝕄 := Transfers.Flight EC (c : Thread nD τ) (.dma ownSem) () (oblk c).view.dmaCredit
  iprop(ownsTc c (oblk c) fullShare (outv m c 7) ∗ ownsTc c stV fullShare (outv m c 7))

/-! ## The steps over them -/

section
variable {α : Type} {Q : α → sProp (MT nD τ sig Unit (Elt F) ℕ UU ℕ)} (c : Dev nD)

/-- A load of anything from what is held whole. -/
theorem step_load_any {cs : CoreSpace} {s : Shape} {e : EltTy} {M : Memref sig .tc cs s e} {r : LoadRect s} {hl : M.view.LoadsAt r}
    {k : (r.shape.Idx → Elt F e) → Prog (TpuEff nD τ sig (Elt F) Λ₀ .tc) α} :
    iprop(∃ X, ownsTc c M fullShare X)
      ⊢ iprop((∀ v, (∃ X, ownsTc c M fullShare X) -∗ wpc c (k v) Q) -∗ wpc c (.op (.load M r hl) k) Q) := by
  unfold ownsTc owns
  iintro ⟨%X, %f, %hf, H⟩ Hk
  iapply (wp_load 𝒱₀ (c : Thread nD τ) none Set.univ (m := M) (S := M.view.set) (View.setOn_subset_set _ _)) $$ H
  iintro H
  iapply Hk
  iexists X
  iexists f
  isplitr; · ipureintro; exact hf
  iexact H

/-- A store into what is held whole, of a value nobody uses. -/
theorem step_store_any {cs : CoreSpace} {s : Shape} {e : EltTy} {M : Memref sig .tc cs s e} {r : Rect s} {w : r.shape.Idx → Elt F e}
    {hx : (M.access r).Stores Finset.univ} {hm : (Finset.univ : Finset r.shape.Idx) = Finset.univ ∨ ∀ a, r.stride a = 1}
    {k : PUnit → Prog (TpuEff nD τ sig (Elt F) Λ₀ .tc) α} :
    iprop(∃ X, ownsTc c M fullShare X)
      ⊢ iprop(((∃ X, ownsTc c M fullShare X) -∗ wpc c (k ⟨⟩) Q) -∗ wpc c (.op (.store M r w Finset.univ hx hm) k) Q) := by
  unfold ownsTc owns
  iintro ⟨%X, %f, %hf, H⟩ Hk
  iapply (wp_store 𝒱₀ (c : Thread nD τ) none Set.univ (m := M) (r := r) (w := w) (Mk := Finset.univ) (f := f) (S := M.view.set)
    ((View.setOn_subset_set _ _).trans (View.set_slice_subset _ _))) $$ H
  iintro H
  iapply Hk
  iexists _
  iexists ((M.access r).write (Elt F) f w Finset.univ)
  isplitr; · ipureintro; rfl
  iexact H

/-- A load of the whole of the copied `x`. -/
theorem step_load_x {hl : xV.view.LoadsAt (Rect.unit (s := S256x2048) ![0, 0] S256x2048.size inb_S256x2048_S256x2048_0_0).toLoadRect}
    {k : (S256x2048.Idx → Elt F .f32) → Prog (TpuEff nD τ sig (Elt F) Λ₀ .tc) α} :
    Xv m c ⊢ iprop((Xv m c -∗ wpc c (k (xin m c)) Q)
      -∗ wpc c (.op (.load xV (Rect.unit (s := S256x2048) ![0, 0] S256x2048.size inb_S256x2048_S256x2048_0_0).toLoadRect hl) k) Q) := by
  have hz : (![0, 0] : Fin 2 → Nat) = fun _ => 0 := funext fun a => by fin_cases a <;> rfl
  unfold Xv ownsTc owns
  iintro ⟨%f, %hf, H⟩ Hk
  iapply (wp_load 𝒱₀ (c : Thread nD τ) none Set.univ (m := xV) (S := xV.view.set) (View.setOn_subset_set _ _)) $$ H
  have h : View.readAt (Elt F) xV.view (Rect.unit (s := S256x2048) ![0, 0] S256x2048.size inb_S256x2048_S256x2048_0_0).toLoadRect f = f :=
    Memref.readAt_unit_zero (Elt F) cc0_scratch0 hz _ f
  rw [h, show f = xin m c from hf]
  iintro H
  iapply Hk
  iexists (xin m c)
  isplitr; · ipureintro; rfl
  iexact H

/-- A store over the whole of the staged block. -/
theorem step_store_own {w : S256x256.Idx → Elt F .bf16} {hx : (stV.access (Rect.unit (s := S256x256) ![0, 0] S256x256.size inb_S256x256_S256x256_0_0)).Stores Finset.univ}
    {hm : (Finset.univ : Finset S256x256.Idx) = Finset.univ ∨ ∀ a, (Rect.unit (s := S256x256) ![0, 0] S256x256.size inb_S256x256_S256x256_0_0).stride a = 1}
    {k : PUnit → Prog (TpuEff nD τ sig (Elt F) Λ₀ .tc) α} :
    iprop(∃ X, ownsTc c stV fullShare X)
      ⊢ iprop((ownsTc c stV fullShare w -∗ wpc c (k ⟨⟩) Q)
        -∗ wpc c (.op (.store stV (Rect.unit (s := S256x256) ![0, 0] S256x256.size inb_S256x256_S256x256_0_0) w Finset.univ hx hm) k) Q) := by
  have hz : (![0, 0] : Fin 2 → Nat) = fun _ => 0 := funext fun a => by fin_cases a <;> rfl
  unfold ownsTc owns
  iintro ⟨%X, %f, %hf, H⟩ Hk
  iapply (wp_store 𝒱₀ (c : Thread nD τ) none Set.univ (m := stV) (r := (Rect.unit (s := S256x256) ![0, 0] S256x256.size inb_S256x256_S256x256_0_0))
    (w := w) (Mk := Finset.univ) (f := f) (S := stV.view.set) ((View.setOn_subset_set _ _).trans (View.set_slice_subset _ _))) $$ H
  have h : View.write (Elt F) (stV.access (Rect.unit (s := S256x256) ![0, 0] S256x256.size inb_S256x256_S256x256_0_0)) f w Finset.univ = w :=
    Memref.write_access_unit_zero_univ (Elt F) cc0_scratch3 hz _ f w
  rw [h]
  iintro H
  iapply Hk
  iexists w
  isplitr; · ipureintro; rfl
  iexact H

/-- A column block's copy starts. -/
theorem step_fetch (r : Fin 8) (s : Fin 3) {hsrc : (wblk c r).view.WordExact} {hdst : (slot s).view.WordExact}
    {hsem : DmaTarget.Typed .hbm (.dma (copySem s)) (.here (slot s) : DmaTarget nD τ sig .tc .vmem S2048x256 .f32)}
    {k : PUnit → Prog (TpuEff nD τ sig (Elt F) Λ₀ .tc) α} :
    iprop(Wb m c r ∗ Sl (F := F) c s ∗ Cz (F := F) c s)
      ⊢ iprop((Fl m c r s -∗ wpc c (k ⟨⟩) Q) -∗ wpc c (.op (.enqueueDma (wblk c r) (.here (slot s)) (.dma (copySem s)) hsrc hdst hsem) k) Q) :=
  step_copy c (by decide)

/-- The copy of `x` starts. -/
theorem step_fetch_x {hsrc : xA.view.WordExact} {hdst : xV.view.WordExact}
    {hsem : DmaTarget.Typed .hbm (.dma xSem) (.here xV : DmaTarget nD τ sig .tc .vmem S256x2048 .f32)}
    {k : PUnit → Prog (TpuEff nD τ sig (Elt F) Λ₀ .tc) α} :
    iprop(Xa m c ∗ (∃ Y, ownsTc c xV fullShare Y) ∗ semVal ((c : Thread nD τ), .dma xSem) 0)
      ⊢ iprop((Fx m c -∗ wpc c (k ⟨⟩) Q) -∗ wpc c (.op (.enqueueDma xA (.here xV) (.dma xSem) hsrc hdst hsem) k) Q) :=
  step_copy c (by decide)

/-- `x` has arrived. -/
theorem step_fetched_x {b q : ℕ} {hsrc : xA.view.WordExact} {hdst : xV.view.WordExact}
    {k : PUnit → Prog (TpuEff nD τ sig (Elt F) Λ₀ .tc) α} :
    iprop(Fx m c ∗ Ow (F := F) c b q ∗ levAts L lv)
      ⊢ iprop((((Xv m c ∗ Xa m c) ∗ semVal ((c : Thread nD τ), .dma xSem) 0 ∗ Ow c b q) -∗ wpc c (k ⟨⟩) Q)
          -∗ wpc c (.op (.waitDma2 xSem xA xV hsrc hdst) k) Q) :=
  step_wait c kind_x

/-- The copy of the device's own block starts. -/
theorem step_fetch_own {hsrc : stV.view.WordExact} {hdst : (oblk c).view.WordExact}
    {hsem : DmaTarget.Typed .vmem (.dma ownSem) (.here (oblk c) : DmaTarget nD τ sig .tc .hbm S256x256 .bf16)}
    {k : PUnit → Prog (TpuEff nD τ sig (Elt F) Λ₀ .tc) α} :
    iprop(ownsTc c stV fullShare (outv m c 7) ∗ (∃ Y, ownsTc c (oblk c) fullShare Y) ∗ semVal ((c : Thread nD τ), .dma ownSem) 0)
      ⊢ iprop((Fo m c -∗ wpc c (k ⟨⟩) Q) -∗ wpc c (.op (.enqueueDma stV (.here (oblk c)) (.dma ownSem) hsrc hdst hsem) k) Q) :=
  step_copy c (by decide)

/-- The device's own block has arrived. -/
theorem step_fetched_own {b q : ℕ} {hsrc : stV.view.WordExact} {hdst : (oblk c).view.WordExact}
    {k : PUnit → Prog (TpuEff nD τ sig (Elt F) Λ₀ .tc) α} :
    iprop(Fo m c ∗ Ow (F := F) c b q ∗ levAts L lv)
      ⊢ iprop((((ownsTc c (oblk c) fullShare (outv m c 7) ∗ ownsTc c stV fullShare (outv m c 7)) ∗ semVal ((c : Thread nD τ), .dma ownSem) 0 ∗ Ow c b q) -∗ wpc c (k ⟨⟩) Q)
          -∗ wpc c (.op (.waitDma2 ownSem stV (oblk c) hsrc hdst) k) Q) :=
  step_wait c kind_own

/-- A column block has arrived. -/
theorem step_fetched (r : Fin 8) (s : Fin 3) {b q : ℕ} {hsrc : (wblk c r).view.WordExact} {hdst : (slot s).view.WordExact}
    {k : PUnit → Prog (TpuEff nD τ sig (Elt F) Λ₀ .tc) α} :
    iprop(Fl m c r s ∗ Ow (F := F) c b q ∗ levAts L lv)
      ⊢ iprop((((Sw m c s r ∗ Wb m c r) ∗ Cz (F := F) c s ∗ Ow c b q) -∗ wpc c (k ⟨⟩) Q)
          -∗ wpc c (.op (.waitDma2 (copySem s) (wblk c r) (slot s) hsrc hdst) k) Q) :=
  step_wait c (kind_copy s)

/-- A column block is loaded from its landing place. -/
theorem step_use (s : Fin 3) (r : Fin 8) {hl : wV.view.LoadsAt (slotRect s).toLoadRect}
    {k : (S1x2048x256.Idx → Elt F .f32) → Prog (TpuEff nD τ sig (Elt F) Λ₀ .tc) α} :
    Sw m c s r
      ⊢ iprop((∀ v : S1x2048x256.Idx → Elt F .f32, ⌜shapeCast S2048x256 v shapeCasts_S1x2048x256_S2048x256 = win m c r⌝ -∗ Sw m c s r -∗ wpc c (k v) Q)
          -∗ wpc c (.op (.load wV (slotRect s).toLoadRect hl) k) Q) :=
  step_load_slot c s

/-- The load before a store through a send place. -/
theorem step_peek (d : Fin 8) {hl : sV.view.LoadsAt (sendRect d).toLoadRect}
    {k : (S1x256x256.Idx → Elt F .bf16) → Prog (TpuEff nD τ sig (Elt F) Λ₀ .tc) α} :
    sendPay (F := F) c d
      ⊢ iprop((∀ v : S1x256x256.Idx → Elt F .bf16, sendPay c d -∗ wpc c (k v) Q)
          -∗ wpc c (.op (.load sV (sendRect d).toLoadRect hl) k) Q) :=
  step_load_send c d

/-- A send place is filled with the block meant for the device `d` ahead. -/
theorem step_fill (d : Fin 8) {w : S1x256x256.Idx → Elt F .bf16} (hw : shapeCast S256x256 w shapeCasts_S1x256x256_S256x256 = outv m c (d - 1))
    {hx : (sV.access (sendRect d)).Stores Finset.univ}
    {hm : (Finset.univ : Finset (sendRect d).shape.Idx) = Finset.univ ∨ ∀ a, (sendRect d).stride a = 1}
    {k : PUnit → Prog (TpuEff nD τ sig (Elt F) Λ₀ .tc) α} :
    sendPay (F := F) c d
      ⊢ iprop((Sf m c d -∗ wpc c (k ⟨⟩) Q) -∗ wpc c (.op (.store sV (sendRect d) w Finset.univ hx hm) k) Q) := by
  unfold Sf
  rw [← hw]
  exact step_store_send c d

/-- The signal `d` ahead. -/
theorem step_sig (K : Dev nD × CK → ℕ) (d : Fin 8) (n : Dev nD) (hn : n = ahead c d) {b r : ℕ} (hd : d.val = b + 1)
    {k : PUnit → Prog (TpuEff nD τ sig (Elt F) Λ₀ .tc) α} :
    iprop(records m K ∗ Ow (F := F) c b r ∗ Sg (F := F) c d)
      ⊢ iprop((Ow c (b + 1) r -∗ wpc c (k ⟨⟩) Q) -∗ wpc c (.op (.semSignal (n : Thread nD τ) barS 1) k) Q) :=
  step_signal m c K d n hn hd

/-- The send `d` ahead. -/
theorem step_put (K : Dev nD × CK → ℕ) (d : Fin 8) (n : Dev nD) (hn : n = ahead c d) {b r : ℕ} (hd : d.val = r + 1)
    {hsc : (oblk c : Memref sig (Dev.tc n : Thread nD τ).2.kind .hbm S256x256 .bf16).view.ref.isScScratch = false}
    {hsrc : (sendSl d).view.WordExact} {hdst : (oblk c).view.WordExact}
    {hsem : DmaTarget.Typed .vmem (.dma (recvSem d)) (.remote (Dev.tc n : Thread nD τ) (oblk c) (.dma (sendSem d)) hsc : DmaTarget nD τ sig .tc .hbm S256x256 .bf16)}
    {k : PUnit → Prog (TpuEff nD τ sig (Elt F) Λ₀ .tc) α} :
    iprop(records m K ∗ Sf m c d ∗ Dst (F := F) c d ∗ Ow (F := F) c b r ∗ Go (F := F) c d)
      ⊢ iprop(((Sc c d ∗ Ow c b (r + 1)) -∗ wpc c (k ⟨⟩) Q)
          -∗ wpc c (.op (.enqueueDma (sendSl d) (.remote (Dev.tc n : Thread nD τ) (oblk c) (.dma (sendSem d)) hsc) (.dma (recvSem d)) hsrc hdst hsem) k) Q) :=
  step_send m c K d n hn hd

/-- The block of the device `d` behind has come in. -/
theorem step_take (K : Dev nD × CK → ℕ) (d : Fin 8) (h0 : d ≠ 0) {hsrc : (sendSl d).view.WordExact} {hdst : (oblk c).view.WordExact}
    {k : PUnit → Prog (TpuEff nD τ sig (Elt F) Λ₀ .tc) α} :
    iprop(records m K ∗ Rc (F := F) c d ∗ Ow (F := F) c 7 7 ∗ Rp (F := F) c d)
      ⊢ iprop(((Ow c 7 7 ∗ Rz m c d) -∗ wpc c (k ⟨⟩) Q) -∗ wpc c (.op (.waitDma2 (recvSem d) (sendSl d) (oblk c) hsrc hdst) k) Q) :=
  step_recv m c K d h0 (credit_out c)

/-- The send `d` ahead is done. -/
theorem step_done (K : Dev nD × CK → ℕ) (d : Fin 8) (h0 : d ≠ 0) {hdst : (sendSl d).view.WordExact} {hsrc : (oblk c).view.WordExact}
    {k : PUnit → Prog (TpuEff nD τ sig (Elt F) Λ₀ .tc) α} :
    iprop(records m K ∗ Sc (F := F) c d ∗ Ow (F := F) c 7 7 ∗ Sp (F := F) c d)
      ⊢ iprop(((Ow c 7 7 ∗ Sz (F := F) c d) -∗ wpc c (k ⟨⟩) Q) -∗ wpc c (.op (.waitDma2 (sendSem d) (oblk c) (sendSl d) hsrc hdst) k) Q) :=
  step_sent m c K d h0 (credit_send d)

end

/-! ## The values the body computes -/

section
variable (c : Dev nD) (r : Fin 8) {v : Vec F S1x2048x256 .f32} (hv : shapeCast S2048x256 v shapeCasts_S1x2048x256_S2048x256 = win m c r)
include hv

theorem pay3_eq : k0_pay3 (xin m c) v = outv m c r := by unfold outv; rw [← hv]; rfl
theorem pay5_eq : k0_pay5 v = truncf .bf16 (win m c r) bitsLt_bf16_f32 := by rw [← hv]; rfl
theorem pay10_eq : k0_pay10 (k0_pay2 (xin m c)) v = outv m c r := by unfold outv; rw [← hv]; rfl
theorem pay13_eq : k0_pay13 (k0_pay2 (xin m c)) v = outv m c r := by unfold outv; rw [← hv]; exact shapeCast_self _ shapeCasts_S256x256_S256x256
theorem pay7_eq : shapeCast S256x256 (k0_pay7 (k0_pay2 (xin m c)) v) shapeCasts_S1x256x256_S256x256 = outv m c r := by
  unfold outv; rw [← hv]; exact shapeCast_shapeCast _ shapeCasts_S256x256_S1x256x256 shapeCasts_S1x256x256_S256x256
theorem pay8_eq : shapeCast S256x256 (k0_pay8 (k0_pay2 (xin m c)) v) shapeCasts_S1x256x256_S256x256 = outv m c r := by
  unfold outv; rw [← hv]; exact shapeCast_shapeCast _ shapeCasts_S256x256_S1x256x256 shapeCasts_S1x256x256_S256x256
theorem pay9_eq : shapeCast S256x256 (k0_pay9 (k0_pay2 (xin m c)) v) shapeCasts_S1x256x256_S256x256 = outv m c r := by
  unfold outv; rw [← hv]; exact shapeCast_shapeCast _ shapeCasts_S256x256_S1x256x256 shapeCasts_S1x256x256_S256x256
theorem pay12_eq : shapeCast S256x256 (k0_pay12 (k0_pay2 (xin m c)) v) shapeCasts_S1x256x256_S256x256 = outv m c r := by
  unfold outv; rw [← hv]; exact shapeCast_shapeCast _ shapeCasts_S256x256_S1x256x256 shapeCasts_S1x256x256_S256x256

end

theorem pay4_eq (y : FVec F S256x256 .bf16) : shapeCast S256x256 (k0_pay4 y) shapeCasts_S1x256x256_S256x256 = y :=
  shapeCast_shapeCast y shapeCasts_S256x256_S1x256x256 shapeCasts_S1x256x256_S256x256
theorem pay11_eq (y : FVec F S256x256 .bf16) : shapeCast S256x256 (k0_pay11 y) shapeCasts_S1x256x256_S256x256 = y :=
  shapeCast_shapeCast y shapeCasts_S256x256_S1x256x256 shapeCasts_S1x256x256_S256x256
theorem pay6_eq (c : Dev nD) (r : Fin 8) :
    shapeCast S256x256 (k0_pay6 (k0_pay2 (xin m c)) (truncf .bf16 (win m c r) bitsLt_bf16_f32)) shapeCasts_S1x256x256_S256x256 = outv m c r := by
  unfold outv; exact shapeCast_shapeCast _ shapeCasts_S256x256_S1x256x256 shapeCasts_S1x256x256_S256x256

/-- A landing place that holds a column block is a landing place. -/
theorem Sw_Sl (c : Dev nD) (s : Fin 3) (r : Fin 8) : Sw m c s r ⊢ Sl (F := F) c s := by
  unfold Sw Sl
  iintro H
  iexists _; iexact H

/-- The body's last step. -/
theorem wpc_ret {α : Type} {Q : α → sProp (MT nD τ sig Unit (Elt F) ℕ UU ℕ)} (c : Dev nD) (a : α) : Q a ⊢ wpc c (.ret a) Q := by
  unfold wpc
  rw [wp_ret]
  iintro H
  imodintro
  iexact H

end Cert.KernelProof

end
-- ==== Proof.Body.lean ====
/-
# The kernel's body, part by part

One lemma for each of the body's parts: what the part takes, and what it
gives back to the rest of the body.
-/
module

public import proofs.«01_k».proof.Proof.Moves

@[expose] public section

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

set_option maxHeartbeats 400000 in
/-- The first part: the copies of `x` and of the first two column blocks start. -/
theorem part1 (K : Dev nD × CK → ℕ) (c : Dev nD) {Kt : _ → sProp 𝕄} :
    iprop(records m K ∗ levAts L lv ∗ (∃ Y, ownsTc c gV fullShare Y) ∗ Xa m c ∗ (∃ Y, ownsTc c xV fullShare Y) ∗ semVal ((c : Thread nD τ), .dma xSem) 0 ∗ Wb m c 0 ∗ Sl (F := F) c 0 ∗ Cz (F := F) c 0 ∗ Wb m c 1 ∗ Sl (F := F) c 1 ∗ Cz (F := F) c 1)
      ⊢ iprop((∀ v6 v27 x, ((∃ Y, ownsTc c gV fullShare Y) ∗ Fx m c ∗ Fl m c 0 0 ∗ Fl m c 1 1) -∗ Kt ⟨c, v6, (SemArray.scalar (sig.barrier 0 rfl) : Sems sig S_), v27, x⟩)
        -∗ wpc c (k0_part1 (F := F) xA (Memref.isWhole_whole _) wA (Memref.isWhole_whole _) oA (Memref.isWhole_whole _) xV (Memref.isWhole_whole _) wV (Memref.isWhole_whole _) sV (Memref.isWhole_whole _) stV (Memref.isWhole_whole _) gV (Memref.isWhole_whole _) cc0_scratch5 cc0_scratch6 cc0_scratch7 cc0_scratch8 cc0_scratch9) Kt) := by
  rw [k0_part1_eq_skeleton]; unfold k0_part1_skel
  simp only [semSignalWord, semWaitWord, Prog.lift, Prog.bind_op, Prog.bind_ret, Prog.pure_eq_ret, wp_deviceId]
  iintro ⟨#HK, #Hlev, Hg, Hxa, Hxv, Hxs, W0, S0, C0, W1, S1, C1⟩ Hk
  iapply (step_load_any c (M := gV)) $$ [Hg]; · iexact Hg
  iintro %v1 Hg
  iapply (step_store_any c (M := gV)) $$ [Hg]; · iexact Hg
  iintro Hg
  unfold wpc; rw [wp_deviceId]
  iapply (step_fetch_x m c) $$ [Hxa Hxv Hxs]
  · isplitl [Hxa]; · iexact Hxa
    isplitl [Hxv]; · iexact Hxv
    iexact Hxs
  iintro Fx
  iapply (step_fetch m c 0 0) $$ [W0 S0 C0]
  · isplitl [W0]; · iexact W0
    isplitl [S0]; · iexact S0
    iexact C0
  iintro F0
  iapply (step_fetch m c 1 1) $$ [W1 S1 C1]
  · isplitl [W1]; · iexact W1
    isplitl [S1]; · iexact S1
    iexact C1
  iintro F1
  iapply wpc_ret
  iapply Hk
  isplitl [Hg]; · iexact Hg
  isplitl [Fx]; · iexact Fx
  isplitl [F0]; · iexact F0
  iexact F1

set_option maxHeartbeats 400000 in
/-- Six of the barrier's signals. -/
theorem part2 (K : Dev nD × CK → ℕ) (c : Dev nD) (v6 v27 x : BitVec 32) {Kt : _ → sProp 𝕄} :
    iprop(records m K ∗ levAts L lv ∗ Ow (F := F) c 0 0 ∗ Sg (F := F) c 1 ∗ Sg (F := F) c 2 ∗ Sg (F := F) c 3 ∗ Sg (F := F) c 4 ∗ Sg (F := F) c 5 ∗ Sg (F := F) c 6)
      ⊢ iprop((∀ v51 y, (Ow (F := F) c 6 0) -∗ Kt ⟨v51, y⟩)
        -∗ wpc c (k0_part2 (F := F) xA (Memref.isWhole_whole _) wA (Memref.isWhole_whole _) oA (Memref.isWhole_whole _) xV (Memref.isWhole_whole _) wV (Memref.isWhole_whole _) sV (Memref.isWhole_whole _) stV (Memref.isWhole_whole _) gV (Memref.isWhole_whole _) cc0_scratch5 cc0_scratch6 cc0_scratch7 cc0_scratch8 cc0_scratch9 c v6 (SemArray.scalar (sig.barrier 0 rfl) : Sems sig S_) v27 x) Kt) := by
  rw [k0_part2_eq_skeleton]; unfold k0_part2_skel
  simp only [semSignalWord, semWaitWord, Prog.lift, Prog.bind_op, Prog.bind_ret, Prog.pure_eq_ret, wp_deviceId]
  iintro ⟨#HK, #Hlev, HO, G1, G2, G3, G4, G5, G6⟩ Hk
  iapply (step_sig m c K 1 _ (dev1_eq c) (b := 0) (r := 0) rfl) $$ [HO G1]
  · isplitr; · iexact HK
    isplitl [HO]; · iexact HO
    iexact G1
  iintro HO
  iapply (step_sig m c K 2 _ (dev2_eq c) (b := 1) (r := 0) rfl) $$ [HO G2]
  · isplitr; · iexact HK
    isplitl [HO]; · iexact HO
    iexact G2
  iintro HO
  iapply (step_sig m c K 3 _ (dev3_eq c) (b := 2) (r := 0) rfl) $$ [HO G3]
  · isplitr; · iexact HK
    isplitl [HO]; · iexact HO
    iexact G3
  iintro HO
  iapply (step_sig m c K 4 _ (dev4_eq c) (b := 3) (r := 0) rfl) $$ [HO G4]
  · isplitr; · iexact HK
    isplitl [HO]; · iexact HO
    iexact G4
  iintro HO
  iapply (step_sig m c K 5 _ (dev5_eq c) (b := 4) (r := 0) rfl) $$ [HO G5]
  · isplitr; · iexact HK
    isplitl [HO]; · iexact HO
    iexact G5
  iintro HO
  iapply (step_sig m c K 6 _ (dev6_eq c) (b := 5) (r := 0) rfl) $$ [HO G6]
  · isplitr; · iexact HK
    isplitl [HO]; · iexact HO
    iexact G6
  iintro HO
  iapply wpc_ret
  iapply Hk
  iexact HO

set_option maxHeartbeats 400000 in
/-- The last signal; `x` and the first column block arrive, the third's copy starts, and the barrier lets the device go on. -/
theorem part3 (K : Dev nD × CK → ℕ) (c : Dev nD) (v6 v51 x : BitVec 32) {Kt : _ → sProp 𝕄} :
    iprop(records m K ∗ levAts L lv ∗ Ow (F := F) c 6 0 ∗ Sg (F := F) c 7 ∗ Fx m c ∗ Fl m c 0 0 ∗ Wb m c 2 ∗ Sl (F := F) c 2 ∗ Cz (F := F) c 2 ∗ cred (tallyAt (barCell c) () 7) ∗ atPos ER (barCell c) 0 ∅ 0)
      ⊢ iprop((∀ v78, (Ow (F := F) c 7 0 ∗ Xa m c ∗ Xv m c ∗ semVal ((c : Thread nD τ), .dma xSem) 0 ∗ Sl (F := F) c 0 ∗ Wb m c 0 ∗ Cz (F := F) c 0 ∗ Fl m c 2 2 ∗ semVal (barCell c) 0 ∗ bigSep (Finset.univ.erase 0) (fun d => barPay (F := F) c d)) -∗ Kt ⟨k0_pay2 (xin m c), outv m c 0, v78⟩)
        -∗ wpc c (k0_part3 (F := F) xA (Memref.isWhole_whole _) wA (Memref.isWhole_whole _) oA (Memref.isWhole_whole _) xV (Memref.isWhole_whole _) wV (Memref.isWhole_whole _) sV (Memref.isWhole_whole _) stV (Memref.isWhole_whole _) gV (Memref.isWhole_whole _) cc0_scratch5 cc0_scratch6 cc0_scratch7 cc0_scratch8 cc0_scratch9 c v6 (SemArray.scalar (sig.barrier 0 rfl) : Sems sig S_) v51 x) Kt) := by
  rw [k0_part3_eq_skeleton]; unfold k0_part3_skel
  simp only [semSignalWord, semWaitWord, Prog.lift, Prog.bind_op, Prog.bind_ret, Prog.pure_eq_ret, wp_deviceId]
  iintro ⟨#HK, #Hlev, HO, G7, Fx, F0, W2, S2, C2, Hb, Pb⟩ Hk
  iapply (step_sig m c K 7 _ (dev7_eq c) (b := 6) (r := 0) rfl) $$ [HO G7]
  · isplitr; · iexact HK
    isplitl [HO]; · iexact HO
    iexact G7
  iintro HO
  iapply (step_fetched_x m c (b := 7) (q := 0)) $$ [Fx HO]
  · isplitl [Fx]; · iexact Fx
    isplitl [HO]; · iexact HO
    iexact Hlev
  iintro ⟨⟨Hxv, Hxa⟩, Hxs, HO⟩
  iapply (step_load_x m c) $$ [Hxv]; · iexact Hxv
  iintro Hxv
  iapply (step_fetched m c 0 0 (b := 7) (q := 0)) $$ [F0 HO]
  · isplitl [F0]; · iexact F0
    isplitl [HO]; · iexact HO
    iexact Hlev
  iintro ⟨⟨S0, W0⟩, C0, HO⟩
  iapply (step_fetch m c 2 2) $$ [W2 S2 C2]
  · isplitl [W2]; · iexact W2
    isplitl [S2]; · iexact S2
    iexact C2
  iintro F2
  iapply (step_use m c 0 0) $$ [S0]; · iexact S0
  iintro %v %hv S0
  ihave S0 := (Sw_Sl m c 0 0) $$ S0
  iapply (step_barrier m c K (r := 0)) $$ [Hb HO Pb]
  · isplitr; · iexact HK
    isplitl [Hb]; · iexact Hb
    isplitl [HO]; · iexact HO
    isplitr; · iexact Hlev
    iexact Pb
  iintro ⟨HO, Pb, Hp⟩
  iapply wpc_ret
  rw [pay3_eq m c 0 hv]
  iapply Hk
  isplitl [HO]; · iexact HO
  isplitl [Hxa]; · iexact Hxa
  isplitl [Hxv]; · iexact Hxv
  isplitl [Hxs]; · iexact Hxs
  isplitl [S0]; · iexact S0
  isplitl [W0]; · iexact W0
  isplitl [C0]; · iexact C0
  isplitl [F2]; · iexact F2
  isplitl [Pb]; · iexact Pb
  iexact Hp

set_option maxHeartbeats 400000 in
/-- The block for distance 1 goes out; the second column block arrives. -/
theorem part4 (K : Dev nD × CK → ℕ) (c : Dev nD) (v6 v78 : BitVec 32) {Kt : _ → sProp 𝕄} :
    iprop(records m K ∗ levAts L lv ∗ sendPay (F := F) c 1 ∗ Dst (F := F) c 1 ∗ Go (F := F) c 1 ∗ Ow (F := F) c 7 0 ∗ Fl m c 1 1 ∗ Wb m c 3 ∗ Sl (F := F) c 0 ∗ Cz (F := F) c 0)
      ⊢ iprop(((Sc (F := F) c 1 ∗ Ow (F := F) c 7 1 ∗ Wb m c 1 ∗ Cz (F := F) c 1 ∗ Sl (F := F) c 1 ∗ Fl m c 3 0) -∗ Kt (truncf .bf16 (win m c 1) bitsLt_bf16_f32))
        -∗ wpc c (k0_part4 (F := F) xA (Memref.isWhole_whole _) wA (Memref.isWhole_whole _) oA (Memref.isWhole_whole _) xV (Memref.isWhole_whole _) wV (Memref.isWhole_whole _) sV (Memref.isWhole_whole _) stV (Memref.isWhole_whole _) gV (Memref.isWhole_whole _) cc0_scratch5 cc0_scratch6 cc0_scratch7 cc0_scratch8 cc0_scratch9 c v6 (outv m c 0) v78) Kt) := by
  rw [k0_part4_eq_skeleton]; unfold k0_part4_skel
  simp only [semSignalWord, semWaitWord, Prog.lift, Prog.bind_op, Prog.bind_ret, Prog.pure_eq_ret, wp_deviceId]
  iintro ⟨#HK, #Hlev, B1, D1, G1, HO, F1, W3, S0, C0⟩ Hk
  iapply (step_peek c 1) $$ [B1]; · iexact B1
  iintro %u1 B1
  iapply (step_fill m c 1 (pay4_eq _)) $$ [B1]; · iexact B1
  iintro B1
  iapply (step_put m c K 1 _ (dev8_eq c) (b := 7) (r := 0) rfl) $$ [B1 D1 HO G1]
  · isplitr; · iexact HK
    isplitl [B1]; · iexact B1
    isplitl [D1]; · iexact D1
    isplitl [HO]; · iexact HO
    iexact G1
  iintro ⟨E1, HO⟩
  iapply (step_fetched m c 1 1 (b := 7) (q := 1)) $$ [F1 HO]
  · isplitl [F1]; · iexact F1
    isplitl [HO]; · iexact HO
    iexact Hlev
  iintro ⟨⟨S1, W1⟩, C1, HO⟩
  iapply (step_fetch m c 3 0) $$ [W3 S0 C0]
  · isplitl [W3]; · iexact W3
    isplitl [S0]; · iexact S0
    iexact C0
  iintro F3
  iapply (step_use m c 1 1) $$ [S1]; · iexact S1
  iintro %v %hv S1
  ihave S1 := (Sw_Sl m c 1 1) $$ S1
  iapply wpc_ret
  rw [pay5_eq m c 1 hv]
  iapply Hk
  isplitl [E1]; · iexact E1
  isplitl [HO]; · iexact HO
  isplitl [W1]; · iexact W1
  isplitl [C1]; · iexact C1
  isplitl [S1]; · iexact S1
  iexact F3

set_option maxHeartbeats 400000 in
/-- The block for distance 2 goes out; the third column block arrives. -/
theorem part5 (K : Dev nD × CK → ℕ) (c : Dev nD) (v6 : BitVec 32) {Kt : _ → sProp 𝕄} :
    iprop(records m K ∗ levAts L lv ∗ sendPay (F := F) c 2 ∗ Dst (F := F) c 2 ∗ Go (F := F) c 2 ∗ Ow (F := F) c 7 1 ∗ Fl m c 2 2)
      ⊢ iprop((∀ v114, (Sc (F := F) c 2 ∗ Ow (F := F) c 7 2 ∗ Wb m c 2 ∗ Cz (F := F) c 2 ∗ Sw m c 2 2) -∗ Kt v114)
        -∗ wpc c (k0_part5 (F := F) xA (Memref.isWhole_whole _) wA (Memref.isWhole_whole _) oA (Memref.isWhole_whole _) xV (Memref.isWhole_whole _) wV (Memref.isWhole_whole _) sV (Memref.isWhole_whole _) stV (Memref.isWhole_whole _) gV (Memref.isWhole_whole _) cc0_scratch5 cc0_scratch6 cc0_scratch7 cc0_scratch8 cc0_scratch9 c v6 (k0_pay2 (xin m c)) (truncf .bf16 (win m c 1) bitsLt_bf16_f32)) Kt) := by
  rw [k0_part5_eq_skeleton]; unfold k0_part5_skel
  simp only [semSignalWord, semWaitWord, Prog.lift, Prog.bind_op, Prog.bind_ret, Prog.pure_eq_ret, wp_deviceId]
  iintro ⟨#HK, #Hlev, B2, D2, G2, HO, F2⟩ Hk
  iapply (step_peek c 2) $$ [B2]; · iexact B2
  iintro %u2 B2
  iapply (step_fill m c 2 (pay6_eq m c 1)) $$ [B2]; · iexact B2
  iintro B2
  iapply (step_put m c K 2 _ (dev9_eq c) (b := 7) (r := 1) rfl) $$ [B2 D2 HO G2]
  · isplitr; · iexact HK
    isplitl [B2]; · iexact B2
    isplitl [D2]; · iexact D2
    isplitl [HO]; · iexact HO
    iexact G2
  iintro ⟨E2, HO⟩
  iapply (step_fetched m c 2 2 (b := 7) (q := 2)) $$ [F2 HO]
  · isplitl [F2]; · iexact F2
    isplitl [HO]; · iexact HO
    iexact Hlev
  iintro ⟨⟨S2, W2⟩, C2, HO⟩
  iapply wpc_ret
  iapply Hk
  isplitl [E2]; · iexact E2
  isplitl [HO]; · iexact HO
  isplitl [W2]; · iexact W2
  isplitl [C2]; · iexact C2
  iexact S2

set_option maxHeartbeats 400000 in
/-- The block for distance 3 goes out; the fourth column block arrives. -/
theorem part6 (K : Dev nD × CK → ℕ) (c : Dev nD) (v6 : BitVec 32) {Kt : _ → sProp 𝕄} :
    iprop(records m K ∗ levAts L lv ∗ Wb m c 4 ∗ Sl (F := F) c 1 ∗ Cz (F := F) c 1 ∗ Sw m c 2 2 ∗ sendPay (F := F) c 3 ∗ Dst (F := F) c 3 ∗ Go (F := F) c 3 ∗ Ow (F := F) c 7 2 ∗ Fl m c 3 0)
      ⊢ iprop((∀ v150 x, (Fl m c 4 1 ∗ Sl (F := F) c 2 ∗ Sc (F := F) c 3 ∗ Ow (F := F) c 7 3 ∗ Sw m c 0 3 ∗ Wb m c 3 ∗ Cz (F := F) c 0) -∗ Kt ⟨v150, x⟩)
        -∗ wpc c (k0_part6 (F := F) xA (Memref.isWhole_whole _) wA (Memref.isWhole_whole _) oA (Memref.isWhole_whole _) xV (Memref.isWhole_whole _) wV (Memref.isWhole_whole _) sV (Memref.isWhole_whole _) stV (Memref.isWhole_whole _) gV (Memref.isWhole_whole _) cc0_scratch5 cc0_scratch6 cc0_scratch7 cc0_scratch8 cc0_scratch9 c v6 (k0_pay2 (xin m c))) Kt) := by
  rw [k0_part6_eq_skeleton]; unfold k0_part6_skel
  simp only [semSignalWord, semWaitWord, Prog.lift, Prog.bind_op, Prog.bind_ret, Prog.pure_eq_ret, wp_deviceId]
  iintro ⟨#HK, #Hlev, W4, S1, C1, S2, B3, D3, G3, HO, F3⟩ Hk
  iapply (step_fetch m c 4 1) $$ [W4 S1 C1]
  · isplitl [W4]; · iexact W4
    isplitl [S1]; · iexact S1
    iexact C1
  iintro F4
  iapply (step_use m c 2 2) $$ [S2]; · iexact S2
  iintro %v %hv S2
  ihave S2 := (Sw_Sl m c 2 2) $$ S2
  iapply (step_peek c 3) $$ [B3]; · iexact B3
  iintro %u3 B3
  iapply (step_fill m c 3 (pay7_eq m c 2 hv)) $$ [B3]; · iexact B3
  iintro B3
  iapply (step_put m c K 3 _ (dev10_eq c) (b := 7) (r := 2) rfl) $$ [B3 D3 HO G3]
  · isplitr; · iexact HK
    isplitl [B3]; · iexact B3
    isplitl [D3]; · iexact D3
    isplitl [HO]; · iexact HO
    iexact G3
  iintro ⟨E3, HO⟩
  iapply (step_fetched m c 3 0 (b := 7) (q := 3)) $$ [F3 HO]
  · isplitl [F3]; · iexact F3
    isplitl [HO]; · iexact HO
    iexact Hlev
  iintro ⟨⟨S0, W3⟩, C0, HO⟩
  iapply wpc_ret
  iapply Hk
  isplitl [F4]; · iexact F4
  isplitl [S2]; · iexact S2
  isplitl [E3]; · iexact E3
  isplitl [HO]; · iexact HO
  isplitl [S0]; · iexact S0
  isplitl [W3]; · iexact W3
  iexact C0

set_option maxHeartbeats 400000 in
/-- The block for distance 4 goes out. -/
theorem part7 (K : Dev nD × CK → ℕ) (c : Dev nD) (v6 x : BitVec 32) {Kt : _ → sProp 𝕄} :
    iprop(records m K ∗ levAts L lv ∗ Wb m c 5 ∗ Sl (F := F) c 2 ∗ Cz (F := F) c 2 ∗ Sw m c 0 3 ∗ sendPay (F := F) c 4 ∗ Dst (F := F) c 4 ∗ Go (F := F) c 4 ∗ Ow (F := F) c 7 3)
      ⊢ iprop((∀ v186, (Fl m c 5 2 ∗ Sl (F := F) c 0 ∗ Sc (F := F) c 4 ∗ Ow (F := F) c 7 4) -∗ Kt v186)
        -∗ wpc c (k0_part7 (F := F) xA (Memref.isWhole_whole _) wA (Memref.isWhole_whole _) oA (Memref.isWhole_whole _) xV (Memref.isWhole_whole _) wV (Memref.isWhole_whole _) sV (Memref.isWhole_whole _) stV (Memref.isWhole_whole _) gV (Memref.isWhole_whole _) cc0_scratch5 cc0_scratch6 cc0_scratch7 cc0_scratch8 cc0_scratch9 c v6 (k0_pay2 (xin m c)) x) Kt) := by
  rw [k0_part7_eq_skeleton]; unfold k0_part7_skel
  simp only [semSignalWord, semWaitWord, Prog.lift, Prog.bind_op, Prog.bind_ret, Prog.pure_eq_ret, wp_deviceId]
  iintro ⟨#HK, #Hlev, W5, S2, C2, S0, B4, D4, G4, HO⟩ Hk
  iapply (step_fetch m c 5 2) $$ [W5 S2 C2]
  · isplitl [W5]; · iexact W5
    isplitl [S2]; · iexact S2
    iexact C2
  iintro F5
  iapply (step_use m c 0 3) $$ [S0]; · iexact S0
  iintro %v %hv S0
  ihave S0 := (Sw_Sl m c 0 3) $$ S0
  iapply (step_peek c 4) $$ [B4]; · iexact B4
  iintro %u4 B4
  iapply (step_fill m c 4 (pay8_eq m c 3 hv)) $$ [B4]; · iexact B4
  iintro B4
  iapply (step_put m c K 4 _ (dev11_eq c) (b := 7) (r := 3) rfl) $$ [B4 D4 HO G4]
  · isplitr; · iexact HK
    isplitl [B4]; · iexact B4
    isplitl [D4]; · iexact D4
    isplitl [HO]; · iexact HO
    iexact G4
  iintro ⟨E4, HO⟩
  iapply wpc_ret
  iapply Hk
  isplitl [F5]; · iexact F5
  isplitl [S0]; · iexact S0
  isplitl [E4]; · iexact E4
  iexact HO

set_option maxHeartbeats 400000 in
/-- The fifth column block arrives and the block for distance 5 is made. -/
theorem part8 (K : Dev nD × CK → ℕ) (c : Dev nD) (v6 : BitVec 32) {Kt : _ → sProp 𝕄} :
    iprop(records m K ∗ levAts L lv ∗ Fl m c 4 1 ∗ Ow (F := F) c 7 4 ∗ Wb m c 6 ∗ Sl (F := F) c 0 ∗ Cz (F := F) c 0 ∗ sendPay (F := F) c 5)
      ⊢ iprop((∀ v222 v227 x, (Wb m c 4 ∗ Cz (F := F) c 1 ∗ Ow (F := F) c 7 4 ∗ Fl m c 6 0 ∗ Sl (F := F) c 1 ∗ Sf m c 5) -∗ Kt ⟨v222, v227, x⟩)
        -∗ wpc c (k0_part8 (F := F) xA (Memref.isWhole_whole _) wA (Memref.isWhole_whole _) oA (Memref.isWhole_whole _) xV (Memref.isWhole_whole _) wV (Memref.isWhole_whole _) sV (Memref.isWhole_whole _) stV (Memref.isWhole_whole _) gV (Memref.isWhole_whole _) cc0_scratch5 cc0_scratch6 cc0_scratch7 cc0_scratch8 cc0_scratch9 c v6 (k0_pay2 (xin m c))) Kt) := by
  rw [k0_part8_eq_skeleton]; unfold k0_part8_skel
  simp only [semSignalWord, semWaitWord, Prog.lift, Prog.bind_op, Prog.bind_ret, Prog.pure_eq_ret, wp_deviceId]
  iintro ⟨#HK, #Hlev, F4, HO, W6, S0, C0, B5⟩ Hk
  iapply (step_fetched m c 4 1 (b := 7) (q := 4)) $$ [F4 HO]
  · isplitl [F4]; · iexact F4
    isplitl [HO]; · iexact HO
    iexact Hlev
  iintro ⟨⟨S1, W4⟩, C1, HO⟩
  iapply (step_fetch m c 6 0) $$ [W6 S0 C0]
  · isplitl [W6]; · iexact W6
    isplitl [S0]; · iexact S0
    iexact C0
  iintro F6
  iapply (step_use m c 1 4) $$ [S1]; · iexact S1
  iintro %v %hv S1
  ihave S1 := (Sw_Sl m c 1 4) $$ S1
  iapply (step_peek c 5) $$ [B5]; · iexact B5
  iintro %u5 B5
  iapply (step_fill m c 5 (pay9_eq m c 4 hv)) $$ [B5]; · iexact B5
  iintro B5
  iapply wpc_ret
  iapply Hk
  isplitl [W4]; · iexact W4
  isplitl [C1]; · iexact C1
  isplitl [HO]; · iexact HO
  isplitl [F6]; · iexact F6
  isplitl [S1]; · iexact S1
  iexact B5

set_option maxHeartbeats 400000 in
/-- The block for distance 5 goes out; the sixth column block arrives. -/
theorem part9 (K : Dev nD × CK → ℕ) (c : Dev nD) (v6 v227 x : BitVec 32) {Kt : _ → sProp 𝕄} :
    iprop(records m K ∗ levAts L lv ∗ Sf m c 5 ∗ Dst (F := F) c 5 ∗ Go (F := F) c 5 ∗ Ow (F := F) c 7 4 ∗ Fl m c 5 2 ∗ Wb m c 7 ∗ Sl (F := F) c 1 ∗ Cz (F := F) c 1)
      ⊢ iprop((∀ v258, (Sc (F := F) c 5 ∗ Ow (F := F) c 7 5 ∗ Wb m c 5 ∗ Cz (F := F) c 2 ∗ Fl m c 7 1 ∗ Sl (F := F) c 2) -∗ Kt ⟨outv m c 5, v258⟩)
        -∗ wpc c (k0_part9 (F := F) xA (Memref.isWhole_whole _) wA (Memref.isWhole_whole _) oA (Memref.isWhole_whole _) xV (Memref.isWhole_whole _) wV (Memref.isWhole_whole _) sV (Memref.isWhole_whole _) stV (Memref.isWhole_whole _) gV (Memref.isWhole_whole _) cc0_scratch5 cc0_scratch6 cc0_scratch7 cc0_scratch8 cc0_scratch9 c v6 (k0_pay2 (xin m c)) v227 x) Kt) := by
  rw [k0_part9_eq_skeleton]; unfold k0_part9_skel
  simp only [semSignalWord, semWaitWord, Prog.lift, Prog.bind_op, Prog.bind_ret, Prog.pure_eq_ret, wp_deviceId]
  iintro ⟨#HK, #Hlev, B5, D5, G5, HO, F5, W7, S1, C1⟩ Hk
  iapply (step_put m c K 5 _ (dev12_eq c) (b := 7) (r := 4) rfl) $$ [B5 D5 HO G5]
  · isplitr; · iexact HK
    isplitl [B5]; · iexact B5
    isplitl [D5]; · iexact D5
    isplitl [HO]; · iexact HO
    iexact G5
  iintro ⟨E5, HO⟩
  iapply (step_fetched m c 5 2 (b := 7) (q := 5)) $$ [F5 HO]
  · isplitl [F5]; · iexact F5
    isplitl [HO]; · iexact HO
    iexact Hlev
  iintro ⟨⟨S2, W5⟩, C2, HO⟩
  iapply (step_fetch m c 7 1) $$ [W7 S1 C1]
  · isplitl [W7]; · iexact W7
    isplitl [S1]; · iexact S1
    iexact C1
  iintro F7
  iapply (step_use m c 2 5) $$ [S2]; · iexact S2
  iintro %v %hv S2
  ihave S2 := (Sw_Sl m c 2 5) $$ S2
  iapply wpc_ret
  rw [pay10_eq m c 5 hv]
  iapply Hk
  isplitl [E5]; · iexact E5
  isplitl [HO]; · iexact HO
  isplitl [W5]; · iexact W5
  isplitl [C2]; · iexact C2
  isplitl [F7]; · iexact F7
  iexact S2

set_option maxHeartbeats 400000 in
/-- The block for distance 6 goes out; the seventh column block arrives and the block for distance 7 is made. -/
theorem part10 (K : Dev nD × CK → ℕ) (c : Dev nD) (v6 v258 : BitVec 32) {Kt : _ → sProp 𝕄} :
    iprop(records m K ∗ levAts L lv ∗ sendPay (F := F) c 6 ∗ Dst (F := F) c 6 ∗ Go (F := F) c 6 ∗ Ow (F := F) c 7 5 ∗ Fl m c 6 0 ∗ sendPay (F := F) c 7)
      ⊢ iprop((∀ v285, (Sc (F := F) c 6 ∗ Ow (F := F) c 7 6 ∗ Wb m c 6 ∗ Cz (F := F) c 0 ∗ Sl (F := F) c 0 ∗ Sf m c 7) -∗ Kt v285)
        -∗ wpc c (k0_part10 (F := F) xA (Memref.isWhole_whole _) wA (Memref.isWhole_whole _) oA (Memref.isWhole_whole _) xV (Memref.isWhole_whole _) wV (Memref.isWhole_whole _) sV (Memref.isWhole_whole _) stV (Memref.isWhole_whole _) gV (Memref.isWhole_whole _) cc0_scratch5 cc0_scratch6 cc0_scratch7 cc0_scratch8 cc0_scratch9 c v6 (k0_pay2 (xin m c)) (outv m c 5) v258) Kt) := by
  rw [k0_part10_eq_skeleton]; unfold k0_part10_skel
  simp only [semSignalWord, semWaitWord, Prog.lift, Prog.bind_op, Prog.bind_ret, Prog.pure_eq_ret, wp_deviceId]
  iintro ⟨#HK, #Hlev, B6, D6, G6, HO, F6, B7⟩ Hk
  iapply (step_peek c 6) $$ [B6]; · iexact B6
  iintro %u6 B6
  iapply (step_fill m c 6 (pay11_eq _)) $$ [B6]; · iexact B6
  iintro B6
  iapply (step_put m c K 6 _ (dev13_eq c) (b := 7) (r := 5) rfl) $$ [B6 D6 HO G6]
  · isplitr; · iexact HK
    isplitl [B6]; · iexact B6
    isplitl [D6]; · iexact D6
    isplitl [HO]; · iexact HO
    iexact G6
  iintro ⟨E6, HO⟩
  iapply (step_fetched m c 6 0 (b := 7) (q := 6)) $$ [F6 HO]
  · isplitl [F6]; · iexact F6
    isplitl [HO]; · iexact HO
    iexact Hlev
  iintro ⟨⟨S0, W6⟩, C0, HO⟩
  iapply (step_use m c 0 6) $$ [S0]; · iexact S0
  iintro %v %hv S0
  ihave S0 := (Sw_Sl m c 0 6) $$ S0
  iapply (step_peek c 7) $$ [B7]; · iexact B7
  iintro %u7 B7
  iapply (step_fill m c 7 (pay12_eq m c 6 hv)) $$ [B7]; · iexact B7
  iintro B7
  iapply wpc_ret
  iapply Hk
  isplitl [E6]; · iexact E6
  isplitl [HO]; · iexact HO
  isplitl [W6]; · iexact W6
  isplitl [C0]; · iexact C0
  isplitl [S0]; · iexact S0
  iexact B7

set_option maxHeartbeats 400000 in
/-- The block for distance 7 goes out; the last column block arrives, and the device's own block is copied to its place. -/
theorem part11 (K : Dev nD × CK → ℕ) (c : Dev nD) (v6 v78 v285 : BitVec 32) {Kt : _ → sProp 𝕄} :
    iprop(records m K ∗ levAts L lv ∗ Sf m c 7 ∗ Dst (F := F) c 7 ∗ Go (F := F) c 7 ∗ Ow (F := F) c 7 6 ∗ Fl m c 7 1 ∗ (∃ X, ownsTc c stV fullShare X) ∗ (∃ Y, ownsTc c (oblk c) fullShare Y) ∗ semVal ((c : Thread nD τ), .dma ownSem) 0)
      ⊢ iprop(((Sc (F := F) c 7 ∗ Ow (F := F) c 7 7 ∗ Wb m c 7 ∗ Cz (F := F) c 1 ∗ Sl (F := F) c 1 ∗ Fo m c) -∗ Kt ⟨⟩)
        -∗ wpc c (k0_part11 (F := F) xA (Memref.isWhole_whole _) wA (Memref.isWhole_whole _) oA (Memref.isWhole_whole _) xV (Memref.isWhole_whole _) wV (Memref.isWhole_whole _) sV (Memref.isWhole_whole _) stV (Memref.isWhole_whole _) gV (Memref.isWhole_whole _) cc0_scratch5 cc0_scratch6 cc0_scratch7 cc0_scratch8 cc0_scratch9 c v6 (k0_pay2 (xin m c)) v78 v285) Kt) := by
  rw [k0_part11_eq_skeleton]; unfold k0_part11_skel
  simp only [semSignalWord, semWaitWord, Prog.lift, Prog.bind_op, Prog.bind_ret, Prog.pure_eq_ret, wp_deviceId]
  iintro ⟨#HK, #Hlev, B7, D7, G7, HO, F7, Hs, Ho, Hos⟩ Hk
  iapply (step_put m c K 7 _ (dev14_eq c) (b := 7) (r := 6) rfl) $$ [B7 D7 HO G7]
  · isplitr; · iexact HK
    isplitl [B7]; · iexact B7
    isplitl [D7]; · iexact D7
    isplitl [HO]; · iexact HO
    iexact G7
  iintro ⟨E7, HO⟩
  iapply (step_fetched m c 7 1 (b := 7) (q := 7)) $$ [F7 HO]
  · isplitl [F7]; · iexact F7
    isplitl [HO]; · iexact HO
    iexact Hlev
  iintro ⟨⟨S1, W7⟩, C1, HO⟩
  iapply (step_use m c 1 7) $$ [S1]; · iexact S1
  iintro %v %hv S1
  ihave S1 := (Sw_Sl m c 1 7) $$ S1
  iapply (step_load_any c (M := stV)) $$ [Hs]; · iexact Hs
  iintro %v1 Hs
  iapply (step_store_own c) $$ [Hs]; · iexact Hs
  iintro Hs
  rw [pay13_eq m c 7 hv]
  iapply (step_fetch_own m c) $$ [Hs Ho Hos]
  · isplitl [Hs]; · iexact Hs
    isplitl [Ho]; · iexact Ho
    iexact Hos
  iintro Fo
  iapply wpc_ret
  iapply Hk
  isplitl [E7]; · iexact E7
  isplitl [HO]; · iexact HO
  isplitl [W7]; · iexact W7
  isplitl [C1]; · iexact C1
  isplitl [S1]; · iexact S1
  iexact Fo

set_option maxHeartbeats 400000 in
/-- Four blocks come in. -/
theorem part12 (K : Dev nD × CK → ℕ) (c : Dev nD) (v114 v150 v186 v222 : BitVec 32) {Kt : _ → sProp 𝕄} :
    iprop(records m K ∗ levAts L lv ∗ Ow (F := F) c 7 7 ∗ Rc (F := F) c 1 ∗ Rp (F := F) c 1 ∗ Rc (F := F) c 2 ∗ Rp (F := F) c 2 ∗ Rc (F := F) c 3 ∗ Rp (F := F) c 3 ∗ Rc (F := F) c 4 ∗ Rp (F := F) c 4)
      ⊢ iprop((∀ v344 x, (Ow (F := F) c 7 7 ∗ Rz m c 1 ∗ Rz m c 2 ∗ Rz m c 3 ∗ Rz m c 4) -∗ Kt ⟨v344, x⟩)
        -∗ wpc c (k0_part12 (F := F) xA (Memref.isWhole_whole _) wA (Memref.isWhole_whole _) oA (Memref.isWhole_whole _) xV (Memref.isWhole_whole _) wV (Memref.isWhole_whole _) sV (Memref.isWhole_whole _) stV (Memref.isWhole_whole _) gV (Memref.isWhole_whole _) cc0_scratch5 cc0_scratch6 cc0_scratch7 cc0_scratch8 cc0_scratch9 c v114 v150 v186 v222) Kt) := by
  rw [k0_part12_eq_skeleton]; unfold k0_part12_skel
  simp only [semSignalWord, semWaitWord, Prog.lift, Prog.bind_op, Prog.bind_ret, Prog.pure_eq_ret, wp_deviceId]
  iintro ⟨#HK, #Hlev, HO, R1, P1, R2, P2, R3, P3, R4, P4⟩ Hk
  iapply (step_take m c K 1 (by decide)) $$ [R1 HO P1]
  · isplitr; · iexact HK
    isplitl [R1]; · iexact R1
    isplitl [HO]; · iexact HO
    iexact P1
  iintro ⟨HO, P1⟩
  iapply (step_take m c K 2 (by decide)) $$ [R2 HO P2]
  · isplitr; · iexact HK
    isplitl [R2]; · iexact R2
    isplitl [HO]; · iexact HO
    iexact P2
  iintro ⟨HO, P2⟩
  iapply (step_take m c K 3 (by decide)) $$ [R3 HO P3]
  · isplitr; · iexact HK
    isplitl [R3]; · iexact R3
    isplitl [HO]; · iexact HO
    iexact P3
  iintro ⟨HO, P3⟩
  iapply (step_take m c K 4 (by decide)) $$ [R4 HO P4]
  · isplitr; · iexact HK
    isplitl [R4]; · iexact R4
    isplitl [HO]; · iexact HO
    iexact P4
  iintro ⟨HO, P4⟩
  iapply wpc_ret
  iapply Hk
  isplitl [HO]; · iexact HO
  isplitl [P1]; · iexact P1
  isplitl [P2]; · iexact P2
  isplitl [P3]; · iexact P3
  iexact P4

set_option maxHeartbeats 400000 in
/-- Three more blocks come in, and the first send is done. -/
theorem part13 (K : Dev nD × CK → ℕ) (c : Dev nD) (v258 v285 v344 x : BitVec 32) {Kt : _ → sProp 𝕄} :
    iprop(records m K ∗ levAts L lv ∗ Ow (F := F) c 7 7 ∗ Rc (F := F) c 5 ∗ Rp (F := F) c 5 ∗ Rc (F := F) c 6 ∗ Rp (F := F) c 6 ∗ Rc (F := F) c 7 ∗ Rp (F := F) c 7 ∗ Sc (F := F) c 1 ∗ Sp (F := F) c 1)
      ⊢ iprop(((Ow (F := F) c 7 7 ∗ Rz m c 5 ∗ Rz m c 6 ∗ Rz m c 7 ∗ Sz (F := F) c 1) -∗ Kt ⟨⟩)
        -∗ wpc c (k0_part13 (F := F) xA (Memref.isWhole_whole _) wA (Memref.isWhole_whole _) oA (Memref.isWhole_whole _) xV (Memref.isWhole_whole _) wV (Memref.isWhole_whole _) sV (Memref.isWhole_whole _) stV (Memref.isWhole_whole _) gV (Memref.isWhole_whole _) cc0_scratch5 cc0_scratch6 cc0_scratch7 cc0_scratch8 cc0_scratch9 c v258 v285 v344 x) Kt) := by
  rw [k0_part13_eq_skeleton]; unfold k0_part13_skel
  simp only [semSignalWord, semWaitWord, Prog.lift, Prog.bind_op, Prog.bind_ret, Prog.pure_eq_ret, wp_deviceId]
  iintro ⟨#HK, #Hlev, HO, R5, P5, R6, P6, R7, P7, E1, Q1⟩ Hk
  iapply (step_take m c K 5 (by decide)) $$ [R5 HO P5]
  · isplitr; · iexact HK
    isplitl [R5]; · iexact R5
    isplitl [HO]; · iexact HO
    iexact P5
  iintro ⟨HO, P5⟩
  iapply (step_take m c K 6 (by decide)) $$ [R6 HO P6]
  · isplitr; · iexact HK
    isplitl [R6]; · iexact R6
    isplitl [HO]; · iexact HO
    iexact P6
  iintro ⟨HO, P6⟩
  iapply (step_take m c K 7 (by decide)) $$ [R7 HO P7]
  · isplitr; · iexact HK
    isplitl [R7]; · iexact R7
    isplitl [HO]; · iexact HO
    iexact P7
  iintro ⟨HO, P7⟩
  iapply (step_done m c K 1 (by decide)) $$ [E1 HO Q1]
  · isplitr; · iexact HK
    isplitl [E1]; · iexact E1
    isplitl [HO]; · iexact HO
    iexact Q1
  iintro ⟨HO, Q1⟩
  iapply wpc_ret
  iapply Hk
  isplitl [HO]; · iexact HO
  isplitl [P5]; · iexact P5
  isplitl [P6]; · iexact P6
  isplitl [P7]; · iexact P7
  iexact Q1

set_option maxHeartbeats 400000 in
/-- Five more sends are done. -/
theorem part14 (K : Dev nD × CK → ℕ) (c : Dev nD) {Kt : _ → sProp 𝕄} :
    iprop(records m K ∗ levAts L lv ∗ Ow (F := F) c 7 7 ∗ Sc (F := F) c 2 ∗ Sp (F := F) c 2 ∗ Sc (F := F) c 3 ∗ Sp (F := F) c 3 ∗ Sc (F := F) c 4 ∗ Sp (F := F) c 4 ∗ Sc (F := F) c 5 ∗ Sp (F := F) c 5 ∗ Sc (F := F) c 6 ∗ Sp (F := F) c 6)
      ⊢ iprop(((Ow (F := F) c 7 7 ∗ Sz (F := F) c 2 ∗ Sz (F := F) c 3 ∗ Sz (F := F) c 4 ∗ Sz (F := F) c 5 ∗ Sz (F := F) c 6) -∗ Kt ⟨⟩)
        -∗ wpc c (k0_part14 (F := F) xA (Memref.isWhole_whole _) wA (Memref.isWhole_whole _) oA (Memref.isWhole_whole _) xV (Memref.isWhole_whole _) wV (Memref.isWhole_whole _) sV (Memref.isWhole_whole _) stV (Memref.isWhole_whole _) gV (Memref.isWhole_whole _) cc0_scratch5 cc0_scratch6 cc0_scratch7 cc0_scratch8 cc0_scratch9 c) Kt) := by
  rw [k0_part14_eq_skeleton]; unfold k0_part14_skel
  simp only [semSignalWord, semWaitWord, Prog.lift, Prog.bind_op, Prog.bind_ret, Prog.pure_eq_ret, wp_deviceId]
  iintro ⟨#HK, #Hlev, HO, E2, P2, E3, P3, E4, P4, E5, P5, E6, P6⟩ Hk
  iapply (step_done m c K 2 (by decide)) $$ [E2 HO P2]
  · isplitr; · iexact HK
    isplitl [E2]; · iexact E2
    isplitl [HO]; · iexact HO
    iexact P2
  iintro ⟨HO, P2⟩
  iapply (step_done m c K 3 (by decide)) $$ [E3 HO P3]
  · isplitr; · iexact HK
    isplitl [E3]; · iexact E3
    isplitl [HO]; · iexact HO
    iexact P3
  iintro ⟨HO, P3⟩
  iapply (step_done m c K 4 (by decide)) $$ [E4 HO P4]
  · isplitr; · iexact HK
    isplitl [E4]; · iexact E4
    isplitl [HO]; · iexact HO
    iexact P4
  iintro ⟨HO, P4⟩
  iapply (step_done m c K 5 (by decide)) $$ [E5 HO P5]
  · isplitr; · iexact HK
    isplitl [E5]; · iexact E5
    isplitl [HO]; · iexact HO
    iexact P5
  iintro ⟨HO, P5⟩
  iapply (step_done m c K 6 (by decide)) $$ [E6 HO P6]
  · isplitr; · iexact HK
    isplitl [E6]; · iexact E6
    isplitl [HO]; · iexact HO
    iexact P6
  iintro ⟨HO, P6⟩
  iapply wpc_ret
  iapply Hk
  isplitl [HO]; · iexact HO
  isplitl [P2]; · iexact P2
  isplitl [P3]; · iexact P3
  isplitl [P4]; · iexact P4
  isplitl [P5]; · iexact P5
  iexact P6

end Cert.KernelProof

end
-- ==== Proof.Split.lean ====
/-
# Buffers cut into blocks, and put back together

The body holds `w` as its eight column blocks, the result as its eight row blocks, the landing buffer as its three
places and the send buffer as its eight. Here each buffer is cut into its blocks and joined from them again.
-/
module

public import proofs.«01_k».proof.Proof.Moves
public import Idealize.ShloMosaic.Lib.Memref

@[expose] public section

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Every element type has a value. -/
instance elt_nonempty (e : EltTy) : Nonempty (Elt F e) := by
  cases e <;> first | exact ⟨(0 : BitVec _)⟩ | exact ⟨FloatOps.ofBits _ 0⟩

/-! ## Families of blocks: every index lies in the block its key names -/

section Tiles
variable {sh : Shape} {T : Type} [Fintype T] [DecidableEq T] {r : T → Rect sh} {key : sh.Idx → T}

theorem tiles_disjoint (hk : ∀ t, ∀ i ∈ (r t).set, key i = t) : ∀ t t', t ≠ t' → Disjoint (r t).set (r t').set :=
  fun t t' h => Finset.disjoint_left.mpr fun i hi hi' => h ((hk t i hi).symm.trans (hk t' i hi'))

theorem tiles_cover (hs : ∀ i, i ∈ (r (key i)).set) : (Finset.univ : Finset T).biUnion (fun t => (r t).set) = Finset.univ :=
  Finset.eq_univ_of_forall fun i => Finset.mem_biUnion.mpr ⟨key i, Finset.mem_univ _, hs i⟩

/-- Values given block by block are values of the whole. -/
theorem tiles_glue {e : EltTy} (hk : ∀ t, ∀ i ∈ (r t).set, key i = t) (hs : ∀ i, i ∈ (r (key i)).set) (Y : ∀ t, (r t).shape.Idx → Elt F e) :
    ∃ X : sh.Idx → Elt F e, ∀ t, (fun j => X ((r t).emb j)) = Y t := by
  refine ⟨fun i => Y (key i) ((r (key i)).exists_idx_of_mem (hs i)).choose, fun t => funext fun j => ?_⟩
  have hkt : key ((r t).emb j) = t := hk t _ (Rect.map_emb_univ (r t) ▸ Finset.mem_map_of_mem _ (Finset.mem_univ j))
  have key_at : ∀ (t' : T) (ht : t' = t) (j' : (r t').shape.Idx), (r t').emb j' = (r t).emb j → Y t' j' = Y t j := by
    rintro t' rfl j' h
    rw [(r t').emb.injective h]
  exact key_at _ hkt _ ((r (key ((r t).emb j))).exists_idx_of_mem (hs ((r t).emb j))).choose_spec

variable (c : Dev nD) {sp : Space} {e : EltTy} (M : Memref sig .tc sp sh e) (hr : ∀ t a, (r t).stride a = 1)

/-- A memref cut into blocks, whatever it holds. -/
theorem tiles_split (hk : ∀ t, ∀ i ∈ (r t).set, key i = t) (hs : ∀ i, i ∈ (r (key i)).set) :
    (iprop(∃ X, ownsTc c M fullShare X) : sProp 𝕄) ⊢ bigSep Finset.univ fun t => iprop(∃ Y, ownsTc c (M.slice (r t) (hr t)) fullShare Y) := by
  have h (X : sh.Idx → Elt F e) : (ownsTc c M fullShare X : sProp 𝕄)
      ⊢ bigSep Finset.univ fun t => iprop(∃ Y, ownsTc c (M.slice (r t) (hr t)) fullShare Y) :=
    (owns_rects (c : Thread nD τ) M fullShare r hr (tiles_disjoint hk) (tiles_cover hs) X).trans
      (bigSep_mono fun t _ => show (ownsTc c (M.slice (r t) (hr t)) fullShare (fun j => X ((r t).emb j)) : sProp 𝕄)
        ⊢ iprop(∃ Y, ownsTc c (M.slice (r t) (hr t)) fullShare Y) from by
          iintro H
          iexists _
          iexact H)
  iintro ⟨%X, H⟩
  iapply (h X) $$ H

/-- Blocks joined to a memref that holds each block's values. -/
theorem tiles_join (hk : ∀ t, ∀ i ∈ (r t).set, key i = t) (hs : ∀ i, i ∈ (r (key i)).set) (Y : ∀ t, (r t).shape.Idx → Elt F e) :
    (bigSep Finset.univ fun t => ownsTc c (M.slice (r t) (hr t)) fullShare (Y t) : sProp 𝕄)
      ⊢ iprop(∃ X, ⌜∀ t, (fun j => X ((r t).emb j)) = Y t⌝ ∗ ownsTc c M fullShare X) := by
  obtain ⟨X, hX⟩ := tiles_glue (F := F) hk hs Y
  iintro H
  iexists X
  isplitr; · ipureintro; exact hX
  iapply (owns_of_rects (c : Thread nD τ) M fullShare r hr (tiles_disjoint hk) (tiles_cover hs) X)
  rw [bigSep_congr (s := Finset.univ) (fun t _ => show (owns (c : Thread nD τ) (M.slice (r t) (hr t)) fullShare (fun j => X ((r t).emb j)) : sProp 𝕄)
    = ownsTc c (M.slice (r t) (hr t)) fullShare (Y t) from by rw [hX t])]
  iexact H

/-- Blocks joined to a memref, whatever they hold. -/
theorem tiles_join_any (hk : ∀ t, ∀ i ∈ (r t).set, key i = t) (hs : ∀ i, i ∈ (r (key i)).set) :
    (bigSep Finset.univ fun t => iprop(∃ Y, ownsTc c (M.slice (r t) (hr t)) fullShare Y) : sProp 𝕄) ⊢ iprop(∃ X, ownsTc c M fullShare X) := by
  have hY : (bigSep Finset.univ fun t => iprop(∃ Y, ownsTc c (M.slice (r t) (hr t)) fullShare Y) : sProp 𝕄)
      ⊢ iprop(∃ Y : ∀ t, (r t).shape.Idx → Elt F e, bigSep Finset.univ fun t => ownsTc c (M.slice (r t) (hr t)) fullShare (Y t)) :=
    have : ∀ t, Nonempty ((r t).shape.Idx → Elt F e) := fun t => inferInstance
    BI.bigSep_exists_pi Finset.univ (fun t (Y : (r t).shape.Idx → Elt F e) => (ownsTc c (M.slice (r t) (hr t)) fullShare Y : sProp 𝕄))
  iintro H
  ihave H := hY $$ H
  icases H with ⟨%Y, H⟩
  ihave H := (tiles_join c M hr hk hs Y) $$ H
  icases H with ⟨%X, -, H⟩
  iexists X; iexact H

end Tiles

/-! ## The four families -/

/-- Which column block of `w` an index is in, as device `c` counts them. -/
def wKey (c : Dev nD) (i : S2048x2048.Idx) : Fin 8 := ⟨((i 1).val / 256 + 15 - c.val) % 8, by omega⟩
theorem w_key (c : Dev nD) : ∀ t, ∀ i ∈ (wRect c t).set, wKey c i = t := fun t i hi => by
  obtain ⟨j, hj, he⟩ := (wRect c t).mem_set.mp hi 1
  have ho : (wRect c t).off 1 = 256 * ((c.val + t.val + 1) % 8) := by
    show k0_off1 c (BitVec.ofNat 32 t.val) 1 = _
    rw [k0_off1_eq]; rfl
  have hj : j < 256 := hj
  rw [ho] at he
  have hst : (wRect c t).stride 1 = 1 := rfl
  rw [hst] at he
  have hc : c.val < 8 := c.isLt
  have ht : t.val < 8 := t.isLt
  apply Fin.ext
  show ((i 1).val / 256 + 15 - c.val) % 8 = t.val
  omega
theorem w_mem (c : Dev nD) : ∀ i, i ∈ (wRect c (wKey c i)).set := fun i => by
  refine (wRect c (wKey c i)).mem_set.mpr fun a => ?_
  have hc : c.val < 8 := c.isLt
  have hi : (i 1).val < 2048 := (i 1).isLt
  have ho : (wRect c (wKey c i)).off = ![0, 256 * ((c.val + (wKey c i).val + 1) % 8)] := k0_off1_eq c (wKey c i)
  have hv : (wKey c i).val = ((i 1).val / 256 + 15 - c.val) % 8 := rfl
  fin_cases a
  · refine ⟨(i 0).val, (i 0).isLt, ?_⟩
    show (i 0).val = (wRect c (wKey c i)).off 0 + 1 * (i 0).val
    rw [ho]
    show (i 0).val = 0 + 1 * (i 0).val
    omega
  · refine ⟨(i 1).val % 256, Nat.mod_lt _ (by decide), ?_⟩
    show (i 1).val = (wRect c (wKey c i)).off 1 + 1 * ((i 1).val % 256)
    rw [ho, hv]
    show (i 1).val = 256 * ((c.val + ((i 1).val / 256 + 15 - c.val) % 8 + 1) % 8) + 1 * ((i 1).val % 256)
    omega

/-- Which row block of the result an index is in. -/
def oKey (i : S2048x256.Idx) : Dev nD := ⟨(i 0).val / 256, by have : (i 0).val < 2048 := (i 0).isLt; show (i 0).val / 256 < 8; omega⟩
theorem o_key : ∀ t, ∀ i ∈ (oRect t).set, oKey i = t := fun t i hi => by
  obtain ⟨j, hj, he⟩ := (oRect t).mem_set.mp hi 0
  have ho : (oRect t).off 0 = 256 * t.val := by
    show k0_off2 t 0 = _
    rw [k0_off2_eq]; rfl
  have hj : j < 256 := hj
  have hst : (oRect t).stride 0 = 1 := rfl
  rw [ho, hst] at he
  apply Fin.ext
  show (i 0).val / 256 = t.val
  omega
theorem o_mem : ∀ i, i ∈ (oRect (oKey i)).set := fun i => by
  refine (oRect (oKey i)).mem_set.mpr fun a => ?_
  have ho : (oRect (oKey i)).off = ![256 * (oKey i).val, 0] := k0_off2_eq (oKey i)
  have hv : (oKey i).val = (i 0).val / 256 := rfl
  fin_cases a
  · refine ⟨(i 0).val % 256, Nat.mod_lt _ (by decide), ?_⟩
    show (i 0).val = (oRect (oKey i)).off 0 + 1 * ((i 0).val % 256)
    rw [ho, hv]
    show (i 0).val = 256 * ((i 0).val / 256) + 1 * ((i 0).val % 256)
    omega
  · refine ⟨(i 1).val, (i 1).isLt, ?_⟩
    show (i 1).val = (oRect (oKey i)).off 1 + 1 * (i 1).val
    rw [ho]
    show (i 1).val = 0 + 1 * (i 1).val
    omega

/-- Which landing place an index is in. -/
def slotKey (i : S3x2048x256.Idx) : Fin 3 := i 0
theorem slot_key : ∀ t, ∀ i ∈ (slotRect t).set, slotKey i = t := fun t i hi => by
  obtain ⟨j, hj, he⟩ := (slotRect t).mem_set.mp hi 0
  have hj : j < 1 := hj
  have he : (i 0).val = t.val + 1 * j := he
  exact Fin.ext (show (i 0).val = t.val by omega)
theorem slot_mem : ∀ i, i ∈ (slotRect (slotKey i)).set := fun i => by
  refine (slotRect (slotKey i)).mem_set.mpr fun a => ?_
  fin_cases a
  · exact ⟨0, Nat.one_pos, show (i 0).val = (i 0).val + 1 * 0 by omega⟩
  · exact ⟨(i 1).val, (i 1).isLt, show (i 1).val = 0 + 1 * (i 1).val by omega⟩
  · exact ⟨(i 2).val, (i 2).isLt, show (i 2).val = 0 + 1 * (i 2).val by omega⟩

/-- Which send place an index is in. -/
def sendKey (i : S8x256x256.Idx) : Fin 8 := i 0
theorem send_key : ∀ t, ∀ i ∈ (sendRect t).set, sendKey i = t := fun t i hi => by
  obtain ⟨j, hj, he⟩ := (sendRect t).mem_set.mp hi 0
  have hj : j < 1 := hj
  have he : (i 0).val = t.val + 1 * j := he
  exact Fin.ext (show (i 0).val = t.val by omega)
theorem send_mem : ∀ i, i ∈ (sendRect (sendKey i)).set := fun i => by
  refine (sendRect (sendKey i)).mem_set.mpr fun a => ?_
  fin_cases a
  · exact ⟨0, Nat.one_pos, show (i 0).val = (i 0).val + 1 * 0 by omega⟩
  · exact ⟨(i 1).val, (i 1).isLt, show (i 1).val = 0 + 1 * (i 1).val by omega⟩
  · exact ⟨(i 2).val, (i 2).isLt, show (i 2).val = 0 + 1 * (i 2).val by omega⟩

/-! ## The buffers -/

variable (m : (ℓ : Loc nD τ sig) → Buf (Elt F) ℓ)

/-- `w` on device `c`. -/
def wAll (c : Dev nD) : Vec F S2048x2048 .f32 := wA.view.read (Elt F) (m ((c : Thread nD τ).loc main_arg1))

theorem w_split (c : Dev nD) : (ownsTc c wA fullShare (wAll m c) : sProp 𝕄) ⊢ bigSep Finset.univ fun r => Wb m c r :=
  owns_rects (c : Thread nD τ) wA fullShare (wRect c) (fun _ _ => rfl) (tiles_disjoint (w_key c)) (tiles_cover (w_mem c)) (wAll m c)
theorem w_join (c : Dev nD) : (bigSep Finset.univ fun r => Wb m c r : sProp 𝕄) ⊢ ownsTc c wA fullShare (wAll m c) :=
  owns_of_rects (c : Thread nD τ) wA fullShare (wRect c) (fun _ _ => rfl) (tiles_disjoint (w_key c)) (tiles_cover (w_mem c)) (wAll m c)

theorem o_split (c : Dev nD) : (iprop(∃ X, ownsTc c oA fullShare X) : sProp 𝕄) ⊢ bigSep Finset.univ fun q => iprop(∃ Y, ownsTc c (oblk q) fullShare Y) :=
  tiles_split c oA (fun _ _ => rfl) o_key o_mem
theorem o_join (c : Dev nD) (Y : Dev nD → Vec F S256x256 .bf16) : (bigSep Finset.univ fun q => ownsTc c (oblk q) fullShare (Y q) : sProp 𝕄)
    ⊢ iprop(∃ X, ⌜∀ q, (fun j => X ((oRect q).emb j)) = Y q⌝ ∗ ownsTc c oA fullShare X) :=
  tiles_join c oA (fun _ _ => rfl) o_key o_mem Y

/-- A memref of a slice and the same memref without its unit axis hold the same elements. -/
theorem squeeze_any {s s' : Shape} {sp : Space} {e : EltTy} (c : Dev nD) (M : Memref sig .tc sp s e) (h : s.Squeezes s') :
    (iprop(∃ X, ownsTc c (M.squeeze s' h) fullShare X) : sProp 𝕄) = iprop(∃ X, ownsTc c M fullShare X) := by
  have hset : (M.squeeze s' h).view.set = M.view.set := View.set_reshape ..
  have h₁ : (iprop(∃ X, ownsTc c (M.squeeze s' h) fullShare X) : sProp 𝕄) ⊢ iprop(∃ X, ownsTc c M fullShare X) := by
    unfold ownsTc owns
    iintro ⟨%X, %f, -, H⟩
    iexists _
    iexists f
    isplitr; · ipureintro; rfl
    rw [← hset]
    iexact H
  have h₂ : (iprop(∃ X, ownsTc c M fullShare X) : sProp 𝕄) ⊢ iprop(∃ X, ownsTc c (M.squeeze s' h) fullShare X) := by
    unfold ownsTc owns
    iintro ⟨%X, %f, -, H⟩
    iexists _
    iexists f
    isplitr; · ipureintro; rfl
    rw [hset]
    iexact H
  exact BI.equiv_iff.mp ⟨h₁, h₂⟩

theorem slot_split (c : Dev nD) : (iprop(∃ X, ownsTc c wV fullShare X) : sProp 𝕄) ⊢ bigSep Finset.univ fun s => Sl (F := F) c s :=
  (tiles_split c wV (fun _ _ => rfl) slot_key slot_mem).trans (bigSep_mono fun s _ => Entails.of_eq (squeeze_any c _ _).symm)
theorem slot_join (c : Dev nD) : (bigSep Finset.univ fun s => Sl (F := F) c s : sProp 𝕄) ⊢ iprop(∃ X, ownsTc c wV fullShare X) :=
  (bigSep_mono fun s _ => Entails.of_eq (squeeze_any c _ _)).trans (tiles_join_any c wV (r := slotRect) (fun _ _ => rfl) slot_key slot_mem)
theorem send_split (c : Dev nD) : (iprop(∃ X, ownsTc c sV fullShare X) : sProp 𝕄) ⊢ bigSep Finset.univ fun d => sendPay (F := F) c d :=
  (tiles_split c sV (fun _ _ => rfl) send_key send_mem).trans (bigSep_mono fun s _ => Entails.of_eq (squeeze_any c _ _).symm)
theorem send_join (c : Dev nD) : (bigSep Finset.univ fun d => sendPay (F := F) c d : sProp 𝕄) ⊢ iprop(∃ X, ownsTc c sV fullShare X) :=
  (bigSep_mono fun s _ => Entails.of_eq (squeeze_any c _ _)).trans (tiles_join_any c sV (r := sendRect) (fun _ _ => rfl) send_key send_mem)

/-- Owning a whole buffer's memref is its points-to. -/
theorem owns_whole_eq (c : Dev nD) (b : Ref sig .tc) (f : Buf (Elt F) ((c : Thread nD τ).loc b)) :
    (ownsTc c (Memref.whole b) fullShare f : sProp 𝕄) = (((c : Thread nD τ).loc b) ↦{fullShare} f) := by
  unfold ownsTc; exact owns_whole ..
theorem any_whole_eq (c : Dev nD) (b : Ref sig .tc) :
    (iprop(∃ X : Buf (Elt F) ((c : Thread nD τ).loc b), ownsTc c (Memref.whole b) fullShare X) : sProp 𝕄)
      = iprop(∃ f : Buf (Elt F) ((c : Thread nD τ).loc b), ((c : Thread nD τ).loc b) ↦{fullShare} f) :=
  congrArg _ (funext fun f => owns_whole_eq c b f)

end Cert.KernelProof

end
-- ==== Proof.Whole.lean ====
/-
# The kernel's whole body

The parts put together: what the body takes and what it leaves, and then the same from what the launch hands a device to
what the device hands back.
-/
module

public import proofs.«01_k».proof.Proof.Body
public import proofs.«01_k».proof.Proof.Split

@[expose] public section

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Families, listed -/

theorem bigSep_three (Φ : Fin 3 → sProp 𝕄) : bigSep Finset.univ Φ = iprop(Φ 0 ∗ Φ 1 ∗ Φ 2) :=
  bigSep_univ_eq_bigSepL [0, 1, 2] (by decide) (by decide) Φ
theorem bigSep_eight (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
/-- The seven distances to another device. -/
abbrev far : Finset (Fin 8) := Finset.univ.erase 0
theorem bigSep_far (Φ : Fin 8 → sProp 𝕄) : bigSep far Φ = iprop(Φ 1 ∗ Φ 2 ∗ Φ 3 ∗ Φ 4 ∗ Φ 5 ∗ Φ 6 ∗ Φ 7) :=
  bigSep_eq_bigSepL_of_eq [1, 2, 3, 4, 5, 6, 7] (by decide) (by decide) Φ
theorem bigSep_zero_far (Φ : Fin 8 → sProp 𝕄) : bigSep Finset.univ Φ = iprop(Φ 0 ∗ bigSep far Φ) := by
  rw [bigSep_far, bigSep_eight]

/-- What the device `8 - d` behind handed over is the place the send `d` ahead writes. -/
theorem barPay_eq (c : Dev nD) (d : Fin 8) : barPay (F := F) c (0 - d) = Dst c d := by
  unfold barPay Dst
  rw [show behind c (0 - d) = ahead c d from by revert c d; decide]
theorem dsts (c : Dev nD) : bigSep far (fun d => barPay (F := F) c d) ⊢ bigSep far fun d => Dst (F := F) c d := by
  have e1 := barPay_eq (F := F) c 1
  have e2 := barPay_eq (F := F) c 2
  have e3 := barPay_eq (F := F) c 3
  have e4 := barPay_eq (F := F) c 4
  have e5 := barPay_eq (F := F) c 5
  have e6 := barPay_eq (F := F) c 6
  have e7 := barPay_eq (F := F) c 7
  rw [bigSep_far, bigSep_far, ← e1, ← e2, ← e3, ← e4, ← e5, ← e6, ← e7]
  iintro ⟨B1, B2, B3, B4, B5, B6, B7⟩
  isplitl [B7]; · iexact B7
  isplitl [B6]; · iexact B6
  isplitl [B5]; · iexact B5
  isplitl [B4]; · iexact B4
  isplitl [B3]; · iexact B3
  isplitl [B2]; · iexact B2
  iexact B1

/-! ## The body over its pieces -/

/-- What the body takes. -/
def before (K : Dev nD × CK → ℕ) (c : Dev nD) : sProp 𝕄 :=
  iprop(records m K ∗ levAts L lv ∗ Ow (F := F) c 0 0 ∗ (∃ Y, ownsTc c gV fullShare Y) ∗ Xa m c ∗ (∃ Y, ownsTc c xV fullShare Y)
    ∗ (∃ Y, ownsTc c stV fullShare Y) ∗ (∃ Y, ownsTc c (oblk c) fullShare Y) ∗ semVal ((c : Thread nD τ), .dma xSem) 0 ∗ semVal ((c : Thread nD τ), .dma ownSem) 0
    ∗ cred (tallyAt (barCell c) () 7) ∗ atPos ER (barCell c) 0 ∅ 0
    ∗ (bigSep Finset.univ fun r => Wb m c r) ∗ (bigSep Finset.univ fun s => Sl (F := F) c s) ∗ (bigSep Finset.univ fun s => Cz (F := F) c s)
    ∗ (bigSep far fun d => Sg (F := F) c d) ∗ (bigSep far fun d => sendPay (F := F) c d) ∗ (bigSep far fun d => Go (F := F) c d)
    ∗ (bigSep far fun d => Rc (F := F) c d) ∗ (bigSep far fun d => Rp (F := F) c d) ∗ (bigSep far fun d => Sp (F := F) c d))
/-- What the body leaves. -/
def after (c : Dev nD) : sProp 𝕄 :=
  iprop(Ow (F := F) c 7 7 ∗ (∃ Y, ownsTc c gV fullShare Y) ∗ Xa m c ∗ Xv m c
    ∗ ownsTc c stV fullShare (outv m c 7) ∗ ownsTc c (oblk c) fullShare (outv m c 7) ∗ semVal ((c : Thread nD τ), .dma xSem) 0 ∗ semVal ((c : Thread nD τ), .dma ownSem) 0
    ∗ semVal (barCell c) 0
    ∗ (bigSep Finset.univ fun r => Wb m c r) ∗ (bigSep Finset.univ fun s => Sl (F := F) c s) ∗ (bigSep Finset.univ fun s => Cz (F := F) c s)
    ∗ (bigSep far fun d => Rz m c d) ∗ (bigSep far fun d => Sz (F := F) c d))

/-- The kernel's body as the launch calls it. -/
abbrev bodyProg : Prog (TpuEff nD τ sig (Elt F) Λ₀ .tc) PUnit :=
  cc0_body (F := F) xA (Memref.isWhole_whole _) wA (Memref.isWhole_whole _) oA (Memref.isWhole_whole _) xV (Memref.isWhole_whole _) wV (Memref.isWhole_whole _) sV (Memref.isWhole_whole _) stV (Memref.isWhole_whole _) gV (Memref.isWhole_whole _) cc0_scratch5 cc0_scratch6 cc0_scratch7 cc0_scratch8 cc0_scratch9

set_option maxHeartbeats 1600000 in
/-- The body, part after part. -/
theorem whole (K : Dev nD × CK → ℕ) (c : Dev nD) {Kt : PUnit → sProp 𝕄} :
    before m K c ⊢ iprop((after m c -∗ Kt ⟨⟩) -∗ wpc c (bodyProg (F := F)) Kt) := by
  unfold bodyProg
  rw [cc0_body_eq_skeleton]; unfold cc0_body_skel before after
  rw [bigSep_eight, bigSep_three, bigSep_three, bigSep_far, bigSep_far, bigSep_far, bigSep_far, bigSep_far, bigSep_far, bigSep_far, bigSep_far]
  unfold wpc
  iintro ⟨#HK, #Hlev, HO, Gv, Xa, Xv, St, Ob, Xs, Os, Hb, Pb, ⟨W0, W1, W2, W3, W4, W5, W6, W7⟩, ⟨S0, S1, S2⟩, ⟨C0, C1, C2⟩, ⟨G1, G2, G3, G4, G5, G6, G7⟩, ⟨B1, B2, B3, B4, B5, B6, B7⟩, ⟨T1, T2, T3, T4, T5, T6, T7⟩, ⟨Q1, Q2, Q3, Q4, Q5, Q6, Q7⟩, ⟨P1, P2, P3, P4, P5, P6, P7⟩, ⟨N1, N2, N3, N4, N5, N6, N7⟩⟩ Hk
  rw [wp_bind]
  iapply (part1 m K c ) $$ [Gv Xa Xv Xs W0 S0 C0 W1 S1 C1]
  · isplitr; · iexact HK
    isplitr; · iexact Hlev
    isplitl [Gv]; · iexact Gv
    isplitl [Xa]; · iexact Xa
    isplitl [Xv]; · iexact Xv
    isplitl [Xs]; · iexact Xs
    isplitl [W0]; · iexact W0
    isplitl [S0]; · iexact S0
    isplitl [C0]; · iexact C0
    isplitl [W1]; · iexact W1
    isplitl [S1]; · iexact S1
    iexact C1
  iintro %v6 %v27 %x ⟨Gv, Fx, F0, F1⟩
  try dsimp only
  rw [wp_bind]
  iapply (part2 m K c v6 v27 x) $$ [HO G1 G2 G3 G4 G5 G6]
  · isplitr; · iexact HK
    isplitr; · iexact Hlev
    isplitl [HO]; · iexact HO
    isplitl [G1]; · iexact G1
    isplitl [G2]; · iexact G2
    isplitl [G3]; · iexact G3
    isplitl [G4]; · iexact G4
    isplitl [G5]; · iexact G5
    iexact G6
  iintro %v51 %y HO
  try dsimp only
  rw [wp_bind]
  iapply (part3 m K c v6 v51 y) $$ [HO G7 Fx F0 W2 S2 C2 Hb Pb]
  · isplitr; · iexact HK
    isplitr; · iexact Hlev
    isplitl [HO]; · iexact HO
    isplitl [G7]; · iexact G7
    isplitl [Fx]; · iexact Fx
    isplitl [F0]; · iexact F0
    isplitl [W2]; · iexact W2
    isplitl [S2]; · iexact S2
    isplitl [C2]; · iexact C2
    isplitl [Hb]; · iexact Hb
    iexact Pb
  iintro %v78 ⟨HO, Xa, Xv, Xs, S0, W0, C0, F2, Zb, HD⟩
  ihave HD := (dsts (F := F) c) $$ HD
  ihave HD := (Entails.of_eq (bigSep_far (F := F) fun d => Dst c d)) $$ HD
  icases HD with ⟨D1, D2, D3, D4, D5, D6, D7⟩
  try dsimp only
  rw [wp_bind]
  iapply (part4 m K c v6 v78) $$ [B1 D1 T1 HO F1 W3 S0 C0]
  · isplitr; · iexact HK
    isplitr; · iexact Hlev
    isplitl [B1]; · iexact B1
    isplitl [D1]; · iexact D1
    isplitl [T1]; · iexact T1
    isplitl [HO]; · iexact HO
    isplitl [F1]; · iexact F1
    isplitl [W3]; · iexact W3
    isplitl [S0]; · iexact S0
    iexact C0
  iintro ⟨E1, HO, W1, C1, S1, F3⟩
  try dsimp only
  rw [wp_bind]
  iapply (part5 m K c v6) $$ [B2 D2 T2 HO F2]
  · isplitr; · iexact HK
    isplitr; · iexact Hlev
    isplitl [B2]; · iexact B2
    isplitl [D2]; · iexact D2
    isplitl [T2]; · iexact T2
    isplitl [HO]; · iexact HO
    iexact F2
  iintro %v114 ⟨E2, HO, W2, C2, S2⟩
  try dsimp only
  rw [wp_bind]
  iapply (part6 m K c v6) $$ [W4 S1 C1 S2 B3 D3 T3 HO F3]
  · isplitr; · iexact HK
    isplitr; · iexact Hlev
    isplitl [W4]; · iexact W4
    isplitl [S1]; · iexact S1
    isplitl [C1]; · iexact C1
    isplitl [S2]; · iexact S2
    isplitl [B3]; · iexact B3
    isplitl [D3]; · iexact D3
    isplitl [T3]; · iexact T3
    isplitl [HO]; · iexact HO
    iexact F3
  iintro %v150 %x6 ⟨F4, S2, E3, HO, S0, W3, C0⟩
  try dsimp only
  rw [wp_bind]
  iapply (part7 m K c v6 x6) $$ [W5 S2 C2 S0 B4 D4 T4 HO]
  · isplitr; · iexact HK
    isplitr; · iexact Hlev
    isplitl [W5]; · iexact W5
    isplitl [S2]; · iexact S2
    isplitl [C2]; · iexact C2
    isplitl [S0]; · iexact S0
    isplitl [B4]; · iexact B4
    isplitl [D4]; · iexact D4
    isplitl [T4]; · iexact T4
    iexact HO
  iintro %v186 ⟨F5, S0, E4, HO⟩
  try dsimp only
  rw [wp_bind]
  iapply (part8 m K c v6) $$ [F4 HO W6 S0 C0 B5]
  · isplitr; · iexact HK
    isplitr; · iexact Hlev
    isplitl [F4]; · iexact F4
    isplitl [HO]; · iexact HO
    isplitl [W6]; · iexact W6
    isplitl [S0]; · iexact S0
    isplitl [C0]; · iexact C0
    iexact B5
  iintro %v222 %v227 %x8 ⟨W4, C1, HO, F6, S1, B5⟩
  try dsimp only
  rw [wp_bind]
  iapply (part9 m K c v6 v227 x8) $$ [B5 D5 T5 HO F5 W7 S1 C1]
  · isplitr; · iexact HK
    isplitr; · iexact Hlev
    isplitl [B5]; · iexact B5
    isplitl [D5]; · iexact D5
    isplitl [T5]; · iexact T5
    isplitl [HO]; · iexact HO
    isplitl [F5]; · iexact F5
    isplitl [W7]; · iexact W7
    isplitl [S1]; · iexact S1
    iexact C1
  iintro %v258 ⟨E5, HO, W5, C2, F7, S2⟩
  try dsimp only
  rw [wp_bind]
  iapply (part10 m K c v6 v258) $$ [B6 D6 T6 HO F6 B7]
  · isplitr; · iexact HK
    isplitr; · iexact Hlev
    isplitl [B6]; · iexact B6
    isplitl [D6]; · iexact D6
    isplitl [T6]; · iexact T6
    isplitl [HO]; · iexact HO
    isplitl [F6]; · iexact F6
    iexact B7
  iintro %v285 ⟨E6, HO, W6, C0, S0, B7⟩
  try dsimp only
  rw [wp_bind]
  iapply (part11 m K c v6 v78 v285) $$ [B7 D7 T7 HO F7 St Ob Os]
  · isplitr; · iexact HK
    isplitr; · iexact Hlev
    isplitl [B7]; · iexact B7
    isplitl [D7]; · iexact D7
    isplitl [T7]; · iexact T7
    isplitl [HO]; · iexact HO
    isplitl [F7]; · iexact F7
    isplitl [St]; · iexact St
    isplitl [Ob]; · iexact Ob
    iexact Os
  iintro ⟨E7, HO, W7, C1, S1, Fo⟩
  try dsimp only
  rw [wp_bind]
  iapply (part12 m K c v114 v150 v186 v222) $$ [HO Q1 P1 Q2 P2 Q3 P3 Q4 P4]
  · isplitr; · iexact HK
    isplitr; · iexact Hlev
    isplitl [HO]; · iexact HO
    isplitl [Q1]; · iexact Q1
    isplitl [P1]; · iexact P1
    isplitl [Q2]; · iexact Q2
    isplitl [P2]; · iexact P2
    isplitl [Q3]; · iexact Q3
    isplitl [P3]; · iexact P3
    isplitl [Q4]; · iexact Q4
    iexact P4
  iintro %v344 %x12 ⟨HO, R1, R2, R3, R4⟩
  try dsimp only
  rw [wp_bind]
  iapply (part13 m K c v258 v285 v344 x12) $$ [HO Q5 P5 Q6 P6 Q7 P7 E1 N1]
  · isplitr; · iexact HK
    isplitr; · iexact Hlev
    isplitl [HO]; · iexact HO
    isplitl [Q5]; · iexact Q5
    isplitl [P5]; · iexact P5
    isplitl [Q6]; · iexact Q6
    isplitl [P6]; · iexact P6
    isplitl [Q7]; · iexact Q7
    isplitl [P7]; · iexact P7
    isplitl [E1]; · iexact E1
    iexact N1
  iintro ⟨HO, R5, R6, R7, Z1⟩
  try dsimp only
  rw [wp_bind]
  iapply (part14 m K c ) $$ [HO E2 N2 E3 N3 E4 N4 E5 N5 E6 N6]
  · isplitr; · iexact HK
    isplitr; · iexact Hlev
    isplitl [HO]; · iexact HO
    isplitl [E2]; · iexact E2
    isplitl [N2]; · iexact N2
    isplitl [E3]; · iexact E3
    isplitl [N3]; · iexact N3
    isplitl [E4]; · iexact E4
    isplitl [N4]; · iexact N4
    isplitl [E5]; · iexact E5
    isplitl [N5]; · iexact N5
    isplitl [E6]; · iexact E6
    iexact N6
  iintro ⟨HO, Z2, Z3, Z4, Z5, Z6⟩
  simp only [Prog.lift, Prog.bind_op, Prog.bind_ret, Prog.pure_eq_ret]
  iapply (step_done m c K 7 (by decide)) $$ [E7 HO N7]
  · isplitr; · iexact HK
    isplitl [E7]; · iexact E7
    isplitl [HO]; · iexact HO
    iexact N7
  iintro ⟨HO, Z7⟩
  iapply (step_fetched_own m c (b := 7) (q := 7)) $$ [Fo HO]
  · isplitl [Fo]; · iexact Fo
    isplitl [HO]; · iexact HO
    iexact Hlev
  iintro ⟨⟨Ob, St⟩, Os, HO⟩
  iapply (wpc_ret c)
  iapply Hk
  isplitl [HO]; · iexact HO
  isplitl [Gv]; · iexact Gv
  isplitl [Xa]; · iexact Xa
  isplitl [Xv]; · iexact Xv
  isplitl [St]; · iexact St
  isplitl [Ob]; · iexact Ob
  isplitl [Xs]; · iexact Xs
  isplitl [Os]; · iexact Os
  isplitl [Zb]; · iexact Zb
  isplitl [W0 W1 W2 W3 W4 W5 W6 W7]
  · isplitl [W0]; · iexact W0
    isplitl [W1]; · iexact W1
    isplitl [W2]; · iexact W2
    isplitl [W3]; · iexact W3
    isplitl [W4]; · iexact W4
    isplitl [W5]; · iexact W5
    isplitl [W6]; · iexact W6
    iexact W7
  isplitl [S0 S1 S2]
  · isplitl [S0]; · iexact S0
    isplitl [S1]; · iexact S1
    iexact S2
  isplitl [C0 C1 C2]
  · isplitl [C0]; · iexact C0
    isplitl [C1]; · iexact C1
    iexact C2
  isplitl [R1 R2 R3 R4 R5 R6 R7]
  · isplitl [R1]; · iexact R1
    isplitl [R2]; · iexact R2
    isplitl [R3]; · iexact R3
    isplitl [R4]; · iexact R4
    isplitl [R5]; · iexact R5
    isplitl [R6]; · iexact R6
    iexact R7
  isplitl [Z1]; · iexact Z1
  isplitl [Z2]; · iexact Z2
  isplitl [Z3]; · iexact Z3
  isplitl [Z4]; · iexact Z4
  isplitl [Z5]; · iexact Z5
  isplitl [Z6]; · iexact Z6
  iexact Z7

end Cert.KernelProof

end
-- ==== Proof.Device.lean ====
/-
# One device's run, from what the launch hands it to what it hands back
-/
module

public import proofs.«01_k».proof.Proof.Whole

@[expose] public section

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- A family over the shared cells of a device: the barrier's, the sends', the receives'. -/
theorem bigSep_ck (Φ : CK → sProp 𝕄) :
    bigSep Finset.univ Φ = iprop(Φ none ∗ (bigSep Finset.univ fun d => Φ (some (false, d))) ∗ bigSep Finset.univ fun d => Φ (some (true, d))) := by
  rw [bigSep_univ_eq_bigSepL [none, some (false, 0), some (false, 1), some (false, 2), some (false, 3), some (false, 4), some (false, 5), some (false, 6), some (false, 7),
    some (true, 0), some (true, 1), some (true, 2), some (true, 3), some (true, 4), some (true, 5), some (true, 6), some (true, 7)] (by decide) (by decide) Φ,
    bigSep_eight, bigSep_eight]
  have h₁ : iprop(Φ none ∗ Φ (some (false, 0)) ∗ Φ (some (false, 1)) ∗ Φ (some (false, 2)) ∗ Φ (some (false, 3)) ∗ Φ (some (false, 4)) ∗ Φ (some (false, 5)) ∗ Φ (some (false, 6)) ∗ Φ (some (false, 7))
        ∗ Φ (some (true, 0)) ∗ Φ (some (true, 1)) ∗ Φ (some (true, 2)) ∗ Φ (some (true, 3)) ∗ Φ (some (true, 4)) ∗ Φ (some (true, 5)) ∗ Φ (some (true, 6)) ∗ Φ (some (true, 7)))
      ⊢ iprop(Φ none ∗ (Φ (some (false, 0)) ∗ Φ (some (false, 1)) ∗ Φ (some (false, 2)) ∗ Φ (some (false, 3)) ∗ Φ (some (false, 4)) ∗ Φ (some (false, 5)) ∗ Φ (some (false, 6)) ∗ Φ (some (false, 7)))
        ∗ (Φ (some (true, 0)) ∗ Φ (some (true, 1)) ∗ Φ (some (true, 2)) ∗ Φ (some (true, 3)) ∗ Φ (some (true, 4)) ∗ Φ (some (true, 5)) ∗ Φ (some (true, 6)) ∗ Φ (some (true, 7)))) := by
    iintro ⟨H, A0, A1, A2, A3, A4, A5, A6, A7, B⟩
    isplitl [H]; · iexact H
    isplitr [B]
    · isplitl [A0]; · iexact A0
      isplitl [A1]; · iexact A1
      isplitl [A2]; · iexact A2
      isplitl [A3]; · iexact A3
      isplitl [A4]; · iexact A4
      isplitl [A5]; · iexact A5
      isplitl [A6] <;> iassumption
    · iexact B
  have h₂ : iprop(Φ none ∗ (Φ (some (false, 0)) ∗ Φ (some (false, 1)) ∗ Φ (some (false, 2)) ∗ Φ (some (false, 3)) ∗ Φ (some (false, 4)) ∗ Φ (some (false, 5)) ∗ Φ (some (false, 6)) ∗ Φ (some (false, 7)))
        ∗ (Φ (some (true, 0)) ∗ Φ (some (true, 1)) ∗ Φ (some (true, 2)) ∗ Φ (some (true, 3)) ∗ Φ (some (true, 4)) ∗ Φ (some (true, 5)) ∗ Φ (some (true, 6)) ∗ Φ (some (true, 7))))
      ⊢ iprop(Φ none ∗ Φ (some (false, 0)) ∗ Φ (some (false, 1)) ∗ Φ (some (false, 2)) ∗ Φ (some (false, 3)) ∗ Φ (some (false, 4)) ∗ Φ (some (false, 5)) ∗ Φ (some (false, 6)) ∗ Φ (some (false, 7))
        ∗ Φ (some (true, 0)) ∗ Φ (some (true, 1)) ∗ Φ (some (true, 2)) ∗ Φ (some (true, 3)) ∗ Φ (some (true, 4)) ∗ Φ (some (true, 5)) ∗ Φ (some (true, 6)) ∗ Φ (some (true, 7))) := by
    iintro ⟨H, ⟨A0, A1, A2, A3, A4, A5, A6, A7⟩, B⟩
    isplitl [H]; · iexact H
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    iexact B
  exact BI.equiv_iff.mp ⟨h₁, h₂⟩

/-! ## What the launch hands a device -/

/-- The semaphores of the copies that stay on the device, at rest. -/
def localSems (c : Dev nD) : sProp 𝕄 :=
  iprop(semVal ((c : Thread nD τ), .dma xSem) 0 ∗ (bigSep Finset.univ fun s => Cz (F := F) c s) ∗ semVal ((c : Thread nD τ), .dma ownSem) 0)
/-- The shared cells' semaphores, at rest. -/
def sharedSems (c : Dev nD) : sProp 𝕄 := bigSep Finset.univ fun k : CK => semVal (kcell (c, k)) 0
/-- The rights a device signals and sends with: toward each device ahead of it. -/
def payToks (c : Dev nD) : sProp 𝕄 :=
  iprop((bigSep Finset.univ fun d : Fin 8 => dutyTok ER (barCell (ahead c d)) 0 d)
    ∗ (bigSep Finset.univ fun d : Fin 8 => dutyTok ER (sendCell c d) 0 0)
    ∗ (bigSep Finset.univ fun d : Fin 8 => dutyTok ER (recvCell (ahead c d) d) 0 0))
def ghost (K : Dev nD × CK → ℕ) (c : Dev nD) : sProp 𝕄 :=
  iprop(records m K ∗ (bigSep Finset.univ fun k : CK => atPos ER (kcell (c, k)) 0 ∅ 0) ∗ payToks (F := F) c ∗ localSems (F := F) c)
/-- The credits of what the other devices owe this one. -/
def owedTo (c : Dev nD) : sProp 𝕄 := iprop(cred (tallyAt (barCell c) () 7) ∗ bigSep far fun d => Rc (F := F) c d)
/-- The five scratch buffers, whatever they hold. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f)
    ∗ (∃ f : Buf (Elt F) ((c : Thread nD τ).loc cc0_scratch4), ((c : Thread nD τ).loc cc0_scratch4) ↦{fullShare} f))
/-- The three arrays as launched. -/
def arrays (c : Dev nD) : sProp 𝕄 :=
  iprop((((c : Thread nD τ).loc main_arg0) ↦{fullShare} m ((c : Thread nD τ).loc main_arg0))
    ∗ (((c : Thread nD τ).loc main_arg1) ↦{fullShare} m ((c : Thread nD τ).loc main_arg1))
    ∗ (((c : Thread nD τ).loc main_v1) ↦{fullShare} m ((c : Thread nD τ).loc main_v1)))
/-- The result array holds, as row block `q`, the block device `q` computed for device `c`. -/
def Filled (c : Dev nD) (X : Buf (Elt F) ((c : Thread nD τ).loc main_v1)) : Prop :=
  ∀ q : Dev nD, (fun j => X ((oRect q).emb j)) = outv m q ((c : Fin 8) - q - 1)
/-- The arrays at the end. -/
def results (c : Dev nD) : sProp 𝕄 :=
  iprop((((c : Thread nD τ).loc main_arg0) ↦{fullShare} m ((c : Thread nD τ).loc main_arg0))
    ∗ (((c : Thread nD τ).loc main_arg1) ↦{fullShare} m ((c : Thread nD τ).loc main_arg1))
    ∗ (∃ X, ⌜Filled m c X⌝ ∗ (((c : Thread nD τ).loc main_v1) ↦{fullShare} X)))

/-! ## The pieces regrouped -/

theorem Xa_eq (c : Dev nD) : (Xa m c : sProp 𝕄) = (((c : Thread nD τ).loc main_arg0) ↦{fullShare} m ((c : Thread nD τ).loc main_arg0)) :=
  owns_whole_eq c main_arg0 _
theorem wAll_eq (c : Dev nD) : (ownsTc c wA fullShare (wAll m c) : sProp 𝕄) = (((c : Thread nD τ).loc main_arg1) ↦{fullShare} m ((c : Thread nD τ).loc main_arg1)) :=
  owns_whole_eq c main_arg1 _

/-- The devices, by distance ahead and by distance behind. -/
def aheadEquiv (c : Dev nD) : Fin 8 ≃ Dev nD where
  toFun d := ahead c d
  invFun q := (q : Fin 8) - c
  left_inv d := by revert c d; decide
  right_inv q := by revert c q; decide
def behindEquiv (c : Dev nD) : Fin 8 ≃ Dev nD where
  toFun d := behind c d
  invFun q := (c : Fin 8) - q
  left_inv d := by revert c d; decide
  right_inv q := by revert c q; decide

/-- The result array's row blocks, by distance ahead. -/
theorem o_ahead (c : Dev nD) :
    ((((c : Thread nD τ).loc main_v1) ↦{fullShare} m ((c : Thread nD τ).loc main_v1)) : sProp 𝕄)
      ⊢ iprop((∃ Y, ownsTc c (oblk c) fullShare Y) ∗ bigSep far fun d => iprop(∃ Y, ownsTc c (oblk (ahead c d)) fullShare Y)) := by
  have h : (bigSep Finset.univ fun q : Dev nD => iprop(∃ Y, ownsTc c (oblk q) fullShare Y) : sProp 𝕄)
      = iprop((∃ Y, ownsTc c (oblk c) fullShare Y) ∗ bigSep far fun d => iprop(∃ Y, ownsTc c (oblk (ahead c d)) fullShare Y)) := by
    rw [bigSep_univ_equiv (aheadEquiv c) (fun q : Dev nD => (iprop(∃ Y, ownsTc c (oblk q) fullShare Y) : sProp 𝕄)), bigSep_zero_far]
    rw [show aheadEquiv c 0 = c from by revert c; decide]
    rfl
  rw [← h, ← owns_whole_eq c main_v1]
  have h' : (ownsTc c (Memref.whole main_v1) fullShare (m ((c : Thread nD τ).loc main_v1)) : sProp 𝕄) ⊢ iprop(∃ X, ownsTc c oA fullShare X) := by
    iintro H
    iexists _; iexact H
  exact h'.trans (o_split c)

/-- The filled row blocks are the filled result array. -/
theorem o_filled (c : Dev nD) :
    iprop(ownsTc c (oblk c) fullShare (outv m c 7) ∗ bigSep far fun d => recvPay m c d)
      ⊢ iprop(∃ X, ⌜Filled m c X⌝ ∗ (((c : Thread nD τ).loc main_v1) ↦{fullShare} X)) := by
  have h : iprop(ownsTc c (oblk c) fullShare (outv m c 7) ∗ bigSep far fun d => recvPay m c d)
      = (bigSep Finset.univ fun q : Dev nD => ownsTc c (oblk q) fullShare (outv m q ((c : Fin 8) - q - 1)) : sProp 𝕄) := by
    rw [bigSep_univ_equiv (behindEquiv c) (fun q : Dev nD => (ownsTc c (oblk q) fullShare (outv m q ((c : Fin 8) - q - 1)) : sProp 𝕄)), bigSep_zero_far]
    have h0 : behindEquiv c 0 = c := by revert c; decide
    have hd (d : Fin 8) : (c : Fin 8) - (behindEquiv c d : Fin 8) = d := by revert c d; decide
    rw [h0, show (c : Fin 8) - c - 1 = 7 from by revert c; decide]
    have hs (d : Fin 8) : (recvPay m c d : sProp 𝕄) = ownsTc c (oblk (behindEquiv c d)) fullShare (outv m (behindEquiv c d) ((c : Fin 8) - (behindEquiv c d : Fin 8) - 1)) := by
      rw [hd]; rfl
    rw [bigSep_congr (s := far) fun d _ => hs d]
  rw [h]
  refine (o_join c _).trans ?_
  iintro ⟨%X, %hX, H⟩
  iexists X
  isplitr; · ipureintro; exact hX
  iapply (Entails.of_eq (owns_whole_eq c main_v1 X)); iexact H

/-- Signals ahead: the rights and the row blocks handed over with them. -/
theorem sg_intro (c : Dev nD) :
    iprop((bigSep far fun d : Fin 8 => dutyTok ER (barCell (ahead c d)) 0 d) ∗ bigSep far fun d => iprop(∃ Y, ownsTc c (oblk (ahead c d)) fullShare Y))
      ⊢ (bigSep far fun d => Sg (F := F) c d : sProp 𝕄) := by
  unfold Sg; rw [bigSep_sep']
theorem go_intro (c : Dev nD) :
    iprop((bigSep far fun d : Fin 8 => dutyTok ER (sendCell c d) 0 0) ∗ bigSep far fun d : Fin 8 => dutyTok ER (recvCell (ahead c d) d) 0 0)
      ⊢ (bigSep far fun d => Go (F := F) c d : sProp 𝕄) := by
  unfold Go; rw [bigSep_sep']
theorem sz_elim (c : Dev nD) : (bigSep far fun d => Sz (F := F) c d : sProp 𝕄)
      ⊢ iprop((bigSep far fun d => semVal (sendCell c d) 0) ∗ bigSep far fun d => sendPay c d) := by
  unfold Sz; rw [bigSep_sep']
theorem rz_elim (c : Dev nD) : (bigSep far fun d => Rz m c d : sProp 𝕄)
      ⊢ iprop((bigSep far fun d => semVal (recvCell c d) 0) ∗ bigSep far fun d => recvPay m c d) := by
  unfold Rz; rw [bigSep_sep']

theorem drop_zero (Φ : Fin 8 → sProp 𝕄) : bigSep Finset.univ Φ ⊢ bigSep far Φ := by
  rw [bigSep_zero_far]; iintro ⟨-, H⟩; iexact H

/-- The rights to wait, cell by cell. -/
theorem pos_split (c : Dev nD) : (bigSep Finset.univ fun k : CK => atPos ER (kcell (c, k)) 0 ∅ 0 : sProp 𝕄)
    ⊢ iprop(atPos ER (barCell c) 0 ∅ 0 ∗ (atPos ER (kcell (c, some (false, 0))) 0 ∅ 0 ∗ bigSep far fun d => Sp (F := F) c d)
        ∗ (atPos ER (kcell (c, some (true, 0))) 0 ∅ 0 ∗ bigSep far fun d => Rp (F := F) c d)) := by
  rw [bigSep_ck, bigSep_zero_far, bigSep_zero_far (fun d => (atPos ER (kcell (c, some (true, d))) 0 ∅ 0 : sProp 𝕄))]
  exact BI.Entails.refl _
/-- The cells' semaphores, back together. -/
theorem sems_join (c : Dev nD) :
    iprop(semVal (barCell c) 0 ∗ (semVal (kcell (c, some (false, 0))) 0 ∗ bigSep far fun d => semVal (sendCell c d) 0)
        ∗ (semVal (kcell (c, some (true, 0))) 0 ∗ bigSep far fun d => semVal (recvCell c d) 0))
      ⊢ (sharedSems (F := F) c : sProp 𝕄) := by
  unfold sharedSems
  rw [bigSep_ck, bigSep_zero_far, bigSep_zero_far (fun d => (semVal (kcell (c, some (true, d))) 0 : sProp 𝕄))]
  exact BI.Entails.refl _

/-! ## The run -/

set_option maxHeartbeats 1600000 in
/-- A device's body, from what the launch hands it to its end. -/
theorem device (K : Dev nD × CK → ℕ) (c : Dev nD) {Kt : PUnit → sProp 𝕄} :
    iprop(ghost m K c ∗ owedTo (F := F) c ∗ levAts L lv ∗ arrays m c ∗ scratch (F := F) c ∗ Ow (F := F) c 0 0)
      ⊢ iprop(((scratch (F := F) c ∗ localSems (F := F) c ∗ sharedSems (F := F) c ∗ results m c ∗ Ow (F := F) c 7 7) -∗ Kt ⟨⟩) -∗ wpc c (bodyProg (F := F)) Kt) := by
  unfold ghost owedTo arrays scratch localSems payToks
  iintro ⟨⟨#HK, Hat, ⟨T1, T2, T3⟩, ⟨Xs, C, Os⟩⟩, ⟨Hb, Q⟩, #Hlev, ⟨Xa, W, O⟩, ⟨V0, V1, V2, V3, V4⟩, HO⟩ Hk
  ihave Hat := (pos_split (F := F) c) $$ Hat
  icases Hat with ⟨Pb, ⟨N0, N⟩, ⟨P0, P⟩⟩
  ihave O := (o_ahead m c) $$ O
  icases O with ⟨Ob, Oa⟩
  ihave T1 := (drop_zero (F := F) _) $$ T1
  ihave T2 := (drop_zero (F := F) _) $$ T2
  ihave T3 := (drop_zero (F := F) _) $$ T3
  ihave G := (sg_intro (F := F) c) $$ [T1 Oa]
  · isplitl [T1] <;> iassumption
  ihave T := (go_intro (F := F) c) $$ [T2 T3]
  · isplitl [T2] <;> iassumption
  ihave V0 := (Entails.of_eq (any_whole_eq (F := F) c cc0_scratch0).symm) $$ V0
  ihave V1 := (Entails.of_eq (any_whole_eq (F := F) c cc0_scratch1).symm) $$ V1
  ihave V2 := (Entails.of_eq (any_whole_eq (F := F) c cc0_scratch2).symm) $$ V2
  ihave V3 := (Entails.of_eq (any_whole_eq (F := F) c cc0_scratch3).symm) $$ V3
  ihave V4 := (Entails.of_eq (any_whole_eq (F := F) c cc0_scratch4).symm) $$ V4
  ihave S := (slot_split (F := F) c) $$ V1
  ihave B := (send_split (F := F) c) $$ V2
  ihave B := (Entails.of_eq (bigSep_zero_far (F := F) _)) $$ B
  icases B with ⟨B0, B⟩
  ihave W := (Entails.of_eq (wAll_eq m c).symm) $$ W
  ihave W := (w_split m c) $$ W
  ihave Xa := (Entails.of_eq (Xa_eq m c).symm) $$ Xa
  iapply (close_unused m c K false) $$ [N0]
  · isplitr; · iexact HK
    iexact N0
  iintro N0
  iapply (close_unused m c K true) $$ [P0]
  · isplitr; · iexact HK
    iexact P0
  iintro P0
  iapply (whole m K c) $$ [HO V4 Xa V0 V3 Ob Xs Os Hb Pb W S C G B T Q P N]
  · unfold before
    isplitr; · iexact HK
    isplitr; · iexact Hlev
    isplitl [HO]; · iexact HO
    isplitl [V4]; · iexact V4
    isplitl [Xa]; · iexact Xa
    isplitl [V0]; · iexact V0
    isplitl [V3]; · iexact V3
    isplitl [Ob]; · iexact Ob
    isplitl [Xs]; · iexact Xs
    isplitl [Os]; · iexact Os
    isplitl [Hb]; · iexact Hb
    isplitl [Pb]; · iexact Pb
    isplitl [W]; · iexact W
    isplitl [S]; · iexact S
    isplitl [C]; · iexact C
    isplitl [G]; · iexact G
    isplitl [B]; · iexact B
    isplitl [T]; · iexact T
    isplitl [Q]; · iexact Q
    isplitl [P]; · iexact P
    iexact N
  unfold after
  iintro ⟨HO, V4, Xa, V0, V3, Ob, Xs, Os, Zb, W, S, C, R, Z⟩
  ihave R := (rz_elim m c) $$ R
  icases R with ⟨Rs, R⟩
  ihave Z := (sz_elim (F := F) c) $$ Z
  icases Z with ⟨Zs, B⟩
  ihave B := (Entails.of_eq (bigSep_zero_far (F := F) (fun d => sendPay c d)).symm) $$ [B0 B]
  · isplitl [B0] <;> iassumption
  ihave V2 := (send_join (F := F) c) $$ B
  ihave V1 := (slot_join (F := F) c) $$ S
  ihave W := (w_join m c) $$ W
  ihave W := (Entails.of_eq (wAll_eq m c)) $$ W
  ihave Xa := (Entails.of_eq (Xa_eq m c)) $$ Xa
  ihave O := (o_filled m c) $$ [Ob R]
  · isplitl [Ob] <;> iassumption
  ihave V1 := (Entails.of_eq (any_whole_eq (F := F) c cc0_scratch1)) $$ V1
  ihave V2 := (Entails.of_eq (any_whole_eq (F := F) c cc0_scratch2)) $$ V2
  ihave V4 := (Entails.of_eq (any_whole_eq (F := F) c cc0_scratch4)) $$ V4
  iapply Hk
  isplitl [V0 V1 V2 V3 V4]
  · isplitl [V0]
    · iapply (Entails.of_eq (any_whole_eq (F := F) c cc0_scratch0)); unfold Xv; iexists _; iexact V0
    isplitl [V1]; · iexact V1
    isplitl [V2]; · iexact V2
    isplitl [V3]
    · iapply (Entails.of_eq (any_whole_eq (F := F) c cc0_scratch3)); iexists _; iexact V3
    iexact V4
  isplitl [Xs C Os]
  · isplitl [Xs]; · iexact Xs
    isplitl [C] <;> iassumption
  isplitl [Zb N0 Zs P0 Rs]
  · iapply (sems_join (F := F) c)
    isplitl [Zb]; · iexact Zb
    isplitl [N0 Zs]
    · isplitl [N0] <;> iassumption
    · isplitl [P0] <;> iassumption
  isplitl [Xa W O]
  · unfold results
    isplitl [Xa]; · iexact Xa
    isplitl [W] <;> iassumption
  iexact HO

end Cert.KernelProof

end
-- ==== Proof.Run.lean ====
/-
# The launch of the eight devices, and what every run ends in
-/
module

public import proofs.«01_k».proof.Proof.Device
public import Idealize.ShloMosaic.Lib.Pipeline.CollectiveSegs

@[expose] public section

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body's obligation -/

/-- What a device starts from besides its scratch. -/
def start (c : Dev nD) : sProp 𝕄 := iprop((∃ K, ghost m K c) ∗ owedTo (F := F) c ∗ levAts L lv ∗ arrays m c)
def first (c : Dev nD) : sProp 𝕄 := iprop(start m c ∗ scratch (F := F) c)
def last (c : Dev nD) : sProp 𝕄 := iprop(scratch (F := F) c ∗ localSems (F := F) c ∗ sharedSems (F := F) c ∗ results m c)
/-- What a device owes at the start. -/
def due (c : Dev nD) : CellTallies nD τ sig Unit := owed c 0 0

def dats (_ : Fin 1) (c : Dev nD) : Dat τ (Elt F) Unit ℕ UU ℕ cfg0 c where
  A w := w.elim0
  after w := w.elim0
  Φ t := match t with
    | ⟨0, _⟩ => first m c
    | ⟨_ + 1, _⟩ => last m c
  q _ := fullShare
  owed t := match t with
    | ⟨0, _⟩ => due c
    | ⟨_ + 1, _⟩ => 0

theorem body_obligation (c : Dev nD) : BodyObligation (dats (F := F) m 0 c) (defs₀ (F := F)) 𝒱₀ () Set.univ := fun t => by
  rw [fin_N0 t]
  have hW (Φ : Fin cfg0.W → sProp 𝕄) : bigSep Finset.univ Φ = iprop(emp) := rfl
  rw [hW, hW]
  show iprop(first m c ∗ (dats (F := F) m 0 c).owesAt () (t0_0).castSucc ∗ emp)
    ⊢ wpc c (bodyProg (F := F)) (fun _ => iprop(last m c ∗ (dats (F := F) m 0 c).owesAt () (t0_0).succ ∗ emp))
  unfold first start Dat.owesAt Pipeline.owesWithin
  rw [show (dats (F := F) m 0 c).owed (t0_0).castSucc = owed c 0 0 from rfl, show (dats (F := F) m 0 c).owed (t0_0).succ = 0 from rfl]
  iintro ⟨⟨⟨⟨%K, Hg⟩, Hc, Hlev, Ha⟩, Hs⟩, ⟨%W, %hW', HO⟩, -⟩
  iapply (device m K c) $$ [Hg Hc Hlev Ha Hs HO]
  · isplitl [Hg]; · iexact Hg
    isplitl [Hc]; · iexact Hc
    isplitl [Hlev]; · iexact Hlev
    isplitl [Ha]; · iexact Ha
    isplitl [Hs]; · iexact Hs
    unfold Ow; iexists W; iexact HO
  unfold Ow
  rw [owed_done]
  iintro ⟨Hs, Hl, Hh, Hr, ⟨%W', HO⟩⟩
  isplitl [Hs Hl Hh Hr]
  · unfold last
    isplitl [Hs]; · iexact Hs
    isplitl [Hl]; · iexact Hl
    isplitl [Hh] <;> iassumption
  isplitl [HO]
  · iexists W'
    isplitr; · ipureintro; exact fun _ _ => Or.inl trivial
    iexact HO
  iempintro

/-! ## The semaphores of a device -/

/-- The kernel's own semaphores. -/
abbrev osem : Fin 21 → SemLoc sig := fun i => .dma i
theorem ownSemFacts : Pipeline.OwnSemFacts cfg0.spec osem := by decide

theorem ownSems0_eq (c : Dev nD) : (Pipeline.ownSems0 (Ix := Unit) (Name := ℕ) (U := UU) (Lvl := ℕ) (Val := Elt F) (τ := τ) osem c : sProp 𝕄)
    = iprop(semVal ((c : Thread nD τ), .dma xSem) 0 ∗ Cz (F := F) c 0 ∗ Cz (F := F) c 1 ∗ Cz (F := F) c 2 ∗ semVal ((c : Thread nD τ), .dma ownSem) 0
      ∗ semVal (sendCell c 0) 0 ∗ semVal (sendCell c 1) 0 ∗ semVal (sendCell c 2) 0 ∗ semVal (sendCell c 3) 0 ∗ semVal (sendCell c 4) 0 ∗ semVal (sendCell c 5) 0 ∗ semVal (sendCell c 6) 0 ∗ semVal (sendCell c 7) 0
      ∗ semVal (recvCell c 0) 0 ∗ semVal (recvCell c 1) 0 ∗ semVal (recvCell c 2) 0 ∗ semVal (recvCell c 3) 0 ∗ semVal (recvCell c 4) 0 ∗ semVal (recvCell c 5) 0 ∗ semVal (recvCell c 6) 0 ∗ semVal (recvCell c 7) 0) := by
  rw [Pipeline.ownSems0_eq_of_list c osem [0, 1, 2, 3, 4, 5, 6, 7, 8, 9, 10, 11, 12, 13, 14, 15, 16, 17, 18, 19, 20] (by decide) (by decide)]; rfl
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sharedSems_eq (c : Dev nD) : (sharedSems (F := F) c : sProp 𝕄)
    = iprop(semVal (barCell c) 0
      ∗ (semVal (sendCell c 0) 0 ∗ semVal (sendCell c 1) 0 ∗ semVal (sendCell c 2) 0 ∗ semVal (sendCell c 3) 0 ∗ semVal (sendCell c 4) 0 ∗ semVal (sendCell c 5) 0 ∗ semVal (sendCell c 6) 0 ∗ semVal (sendCell c 7) 0)
      ∗ (semVal (recvCell c 0) 0 ∗ semVal (recvCell c 1) 0 ∗ semVal (recvCell c 2) 0 ∗ semVal (recvCell c 3) 0 ∗ semVal (recvCell c 4) 0 ∗ semVal (recvCell c 5) 0 ∗ semVal (recvCell c 6) 0 ∗ semVal (recvCell c 7) 0)) := by
  unfold sharedSems; rw [bigSep_ck, bigSep_eight, bigSep_eight]; rfl

/-- The semaphores the launch hands out are the local copies' and the shared cells'; -/
theorem sems_out (c : Dev nD) :
    iprop(Pipeline.ownSems0 (Ix := Unit) (Name := ℕ) (U := UU) (Lvl := ℕ) (Val := Elt F) (τ := τ) osem c ∗ unscopedSems0 c)
      ⊢ (iprop(localSems (F := F) c ∗ sharedSems (F := F) c) : sProp 𝕄) := by
  rw [ownSems0_eq, unscopedSems0_eq, sharedSems_eq]
  unfold localSems
  rw [bigSep_three]
  iintro ⟨⟨X, C0, C1, C2, O, S0, S1, S2, S3, S4, S5, S6, S7, R⟩, B⟩
  isplitl [X C0 C1 C2 O]
  · isplitl [X]; · iexact X
    isplitl [C0 C1 C2]
    · isplitl [C0]; · iexact C0
      isplitl [C1] <;> iassumption
    iexact O
  isplitl [B]; · iexact B
  isplitr [R]
  · isplitl [S0]; · iexact S0
    isplitl [S1]; · iexact S1
    isplitl [S2]; · iexact S2
    isplitl [S3]; · iexact S3
    isplitl [S4]; · iexact S4
    isplitl [S5]; · iexact S5
    isplitl [S6] <;> iassumption
  iexact R
/-- and go back so. -/
theorem sems_back (c : Dev nD) :
    (iprop(localSems (F := F) c ∗ sharedSems (F := F) c) : sProp 𝕄)
      ⊢ iprop(unscopedSems0 c ∗ Pipeline.ownSems0 (Ix := Unit) (Name := ℕ) (U := UU) (Lvl := ℕ) (Val := Elt F) (τ := τ) osem c) := by
  rw [ownSems0_eq, unscopedSems0_eq, sharedSems_eq]
  unfold localSems
  rw [bigSep_three]
  iintro ⟨⟨X, ⟨C0, C1, C2⟩, O⟩, B, ⟨S0, S1, S2, S3, S4, S5, S6, S7⟩, R⟩
  isplitl [B]; · iexact B
  isplitl [X]; · iexact X
  isplitl [C0]; · iexact C0
  isplitl [C1]; · iexact C1
  isplitl [C2]; · iexact C2
  isplitl [O]; · iexact O
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  iexact R

/-! ## The schedule's start -/

def allCells : Finset (GSem nD τ sig) := Finset.univ.map ⟨kcell, kcell_injective⟩

/-- The rights minted for a device's own cells: its barrier's eight, and one for each send and each receive. -/
def tokKey : Fin 3 × Fin 8 → CK × Fin 8
  | (0, d) => (none, d)
  | (1, d) => (some (false, d), 0)
  | (2, d) => (some (true, d), 0)
theorem tokKey_injective : Function.Injective tokKey := by
  have h : ∀ j j' : Fin 3 × Fin 8, tokKey j = tokKey j' → j = j' := by decide
  exact fun j j' => h j j'
def tokOf (cj : Dev nD × (Fin 3 × Fin 8)) : GSem nD τ sig × ℕ × Fin 8 := (kcell (cj.1, (tokKey cj.2).1), 0, (tokKey cj.2).2)
theorem tokOf_injective : Function.Injective tokOf := by
  rintro ⟨c, j⟩ ⟨c', j'⟩ h
  have h1 : (c, (tokKey j).1) = (c', (tokKey j').1) := kcell_injective (congrArg Prod.fst h)
  have h3 : c = c' := congrArg Prod.fst h1
  have h2 : (tokKey j).2 = (tokKey j').2 := congrArg (fun x : GSem nD τ sig × ℕ × Fin 8 => x.2.2) h
  rw [h3, tokKey_injective (Prod.ext (congrArg Prod.snd h1) h2)]
def allToks : Finset (GSem nD τ sig × ℕ × Fin 8) := Finset.univ.map ⟨tokOf, tokOf_injective⟩

def u₀ : UU := (initOf (Pipeline.cells cfgs cellOf_inj) (Pipeline.launchToks cfgs cellOf_inj), (initOf allCells allToks, 1))

/-- The rights of a device's own cells. -/
def toks (c : Dev nD) : sProp 𝕄 :=
  iprop((bigSep Finset.univ fun d : Fin 8 => dutyTok ER (barCell c) 0 d)
    ∗ (bigSep Finset.univ fun d : Fin 8 => dutyTok ER (sendCell c d) 0 0)
    ∗ (bigSep Finset.univ fun d : Fin 8 => dutyTok ER (recvCell c d) 0 0))

/-- What the launch deals a device, -/
def G (c : Dev nD) : sProp 𝕄 :=
  iprop((bigSep Finset.univ fun k : CK => roundState ER (rd m) (kcell (c, k)) 0)
    ∗ (bigSep Finset.univ fun k : CK => iprop(atPos ER (kcell (c, k)) 0 ∅ 0 ∗ reached ER (kcell (c, k)) 0)) ∗ toks (F := F) c)
/-- and what all the devices together make of it. -/
def G' (c : Dev nD) : sProp 𝕄 := iprop(∃ K, ghost m K c)

theorem fund : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : CK => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_univ_prod, bigSep_three]; rfl
  iintro HX
  imod (Rounds.fund ER (rd m) allCells allToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (rd m) κ (kcell (c, k))))
          ∗ (bigSep Finset.univ fun k : CK => iprop(atPos ER (kcell (c, k)) 0 ∅ 0 ∗ reached ER (kcell (c, k)) 0)) ∗ toks (F := F) c ∗ localSems (F := F) c) := by
  have halloc : iprop((bigSep Finset.univ fun k : CK => semVal (kcell (c, k)) 0) ∗ bigSep Finset.univ fun k : CK => roundState ER (rd m) (kcell (c, k)) 0)
      ⊢ (|={Set.univ}=> bigSep Finset.univ fun k : CK => iprop(∃ κ : ℕ, cellInv ER (rd m) κ (kcell (c, k))) : sProp 𝕄) := by
    rw [← bigSep_sep']
    exact (bigSep_mono fun k _ => (Rounds.body_intro ER (rd m) (kcell (c, k))).trans inv_alloc).trans (bigSep_fupd _ _)
  unfold G
  iintro ⟨Hos, Hus, Hst, Hat, Htok⟩
  ihave Hv := (sems_out (F := F) c) $$ [Hos Hus]
  · isplitl [Hos] <;> iassumption
  icases Hv with ⟨Hl, Hv⟩
  unfold sharedSems
  imod (halloc) $$ [Hv Hst] with Hinv
  · isplitl [Hv] <;> iassumption
  imodintro
  isplitl [Hinv]; · iexact Hinv
  isplitl [Hat]; · iexact Hat
  isplitl [Htok] <;> iassumption

/-- A family over devices and distances, the devices renumbered by the distance. -/
theorem around (Φ : Dev nD → Fin 8 → sProp 𝕄) :
    (bigSep Finset.univ fun c : Dev nD => bigSep Finset.univ fun d : Fin 8 => Φ c d) = bigSep Finset.univ fun c : Dev nD => bigSep Finset.univ fun d : Fin 8 => Φ (ahead c d) d := by
  let e : Dev nD × Fin 8 ≃ Dev nD × Fin 8 :=
    { toFun := fun x => (ahead x.1 x.2, x.2), invFun := fun x => (behind x.1 x.2, x.2),
      left_inv := fun x => Prod.ext (behind_ahead x.1 x.2) rfl, right_inv := fun x => Prod.ext (ahead_behind x.1 x.2) rfl }
  rw [← bigSep_univ_prod (fun x : Dev nD × Fin 8 => Φ x.1 x.2), bigSep_univ_equiv e (fun x : Dev nD × Fin 8 => Φ x.1 x.2),
    bigSep_univ_prod]
  rfl

/-- Each device's rights dealt to the devices that pay with them. -/
theorem toks_around : (bigSep Finset.univ fun c : Dev nD => (toks c : sProp 𝕄)) ⊢ bigSep Finset.univ fun c : Dev nD => payToks (F := F) c := by
  unfold toks payToks
  rw [bigSep_sep', bigSep_sep', bigSep_sep', bigSep_sep', around (fun c d => (dutyTok ER (barCell c) 0 d : sProp 𝕄)),
    around (fun c d => (dutyTok ER (recvCell c d) 0 0 : sProp 𝕄))]

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- What stays with one device. -/
def own (c : Dev nD) : sProp 𝕄 :=
  iprop((bigSep Finset.univ fun k : CK => atPos ER (kcell (c, k)) 0 ∅ 0) ∗ payToks (F := F) c ∗ localSems (F := F) c)

theorem regroup :
    (bigSep Finset.univ fun c : Dev nD => iprop((bigSep Finset.univ fun k : CK => iprop(∃ κ : ℕ, cellInv ER (rd m) κ (kcell (c, k))))
          ∗ (bigSep Finset.univ fun k : CK => iprop(atPos ER (kcell (c, k)) 0 ∅ 0 ∗ reached ER (kcell (c, k)) 0)) ∗ toks (F := F) c ∗ localSems (F := F) c) : sProp 𝕄)
      ⊢ bigSep Finset.univ (G' m) := by
  have hrec (K : Dev nD × CK → ℕ) : iprop((bigSep Finset.univ fun ck : Dev nD × CK => cellInv ER (rd m) (K ck) (kcell ck)) ∗ bigSep Finset.univ fun ck : Dev nD × CK => reached ER (kcell ck) 0)
      ⊢ (records m K : sProp 𝕄) := by unfold records; rw [bigSep_sep']
  have hdeal (K : Dev nD × CK → ℕ) : iprop(records m K ∗ bigSep Finset.univ fun c : Dev nD => own c) ⊢ (bigSep Finset.univ (G' m) : sProp 𝕄) :=
    with_persistent fun c _ => by
      have : iprop(records m K ∗ own (F := F) c) ⊢ (G' m c : sProp 𝕄) := by
        unfold own G' ghost
        iintro H
        iexists K
        iexact H
      exact this
  have hown : iprop((bigSep Finset.univ fun c : Dev nD => bigSep Finset.univ fun k : CK => atPos ER (kcell (c, k)) 0 ∅ 0)
        ∗ (bigSep Finset.univ fun c : Dev nD => payToks (F := F) c) ∗ bigSep Finset.univ fun c : Dev nD => localSems (F := F) c)
      ⊢ (bigSep Finset.univ fun c : Dev nD => own (F := F) c : sProp 𝕄) := by
    unfold own; rw [bigSep_sep', bigSep_sep']
  rw [bigSep_sep', bigSep_sep', bigSep_sep', ← bigSep_univ_prod (fun ck : Dev nD × CK => iprop(∃ κ : ℕ, cellInv ER (rd m) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, HR⟩, Htok, Hl⟩
  ihave HK := (BI.bigSep_exists_pi Finset.univ (fun (ck : Dev nD × CK) (κ : ℕ) => (cellInv ER (rd m) κ (kcell ck) : sProp 𝕄))) $$ HI
  icases HK with ⟨%K, HI⟩
  ihave Htk := (toks_around (F := F)) $$ Htok
  iapply (hdeal K)
  isplitl [HI HR]
  · iapply (hrec K)
    isplitl [HI] <;> iassumption
  · iapply hown
    isplitl [Hat]; · iexact Hat
    isplitl [Htk] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits of what is owed at the start -/

theorem bar_eq {a b : Dev nD} (h : barCell a = barCell b) : a = b := Fin.ext (congrArg (fun g : GSem nD τ sig => g.1.1.val) h)
theorem recv_eq {a b : Dev nD} {d e : Fin 8} (h : recvCell a d = recvCell b e) : a = b ∧ d = e := by
  have h' : kcell (a, some (true, d)) = kcell (b, some (true, e)) := h
  have h := kcell_injective h'
  exact ⟨congrArg Prod.fst h, by injection (congrArg Prod.snd h) with h; exact congrArg Prod.snd h⟩
theorem bar_ne_recv (a b : Dev nD) (d : Fin 8) : barCell a ≠ recvCell b d := fun h => by
  have h' : kcell (a, none) = kcell (b, some (true, d)) := h
  exact absurd (congrArg Prod.snd (kcell_injective h')) (by simp)

/-- The distances a device pays toward. -/
abbrev paid : Finset (Fin 8) := Finset.univ.filter fun d : Fin 8 => 0 < d.val

theorem due_bar (b c : Dev nD) : due b (barCell c) () = ∑ d ∈ paid, if ahead b d = c then 1 else 0 := by
  unfold due owed
  rw [Pi.add_apply, Finsupp.add_apply, Finset.sum_apply, Finset.sum_apply, Finsupp.finset_sum_apply, Finsupp.finset_sum_apply,
    Finset.sum_eq_zero (f := fun d => (tallyAt (recvCell (ahead b d) d) () N : CellTallies nD τ sig Unit) (barCell c) ()) fun d _ => by
      rw [tallyAt_apply, if_neg fun h => bar_ne_recv _ _ _ h.1], Nat.add_zero]
  refine Finset.sum_congr rfl fun d _ => ?_
  rw [tallyAt_apply]
  by_cases h : ahead b d = c
  · subst h; rw [if_pos ⟨rfl, rfl⟩, if_pos rfl]
  · rw [if_neg h, if_neg fun h' => h (bar_eq h'.1).symm]
theorem due_recv (b c : Dev nD) (e : Fin 8) : due b (recvCell c e) () = (∑ d ∈ paid, if ahead b d = c ∧ d = e then 1 else 0) * N := by
  unfold due owed
  rw [Pi.add_apply, Finsupp.add_apply, Finset.sum_apply, Finset.sum_apply, Finsupp.finset_sum_apply, Finsupp.finset_sum_apply,
    Finset.sum_eq_zero (f := fun d => (tallyAt (barCell (ahead b d)) () 1 : CellTallies nD τ sig Unit) (recvCell c e) ()) fun d _ => by
      rw [tallyAt_apply, if_neg fun h => bar_ne_recv _ _ _ h.1.symm], Nat.zero_add, Finset.sum_mul]
  refine Finset.sum_congr rfl fun d _ => ?_
  rw [tallyAt_apply]
  by_cases h : ahead b d = c ∧ d = e
  · obtain ⟨rfl, rfl⟩ := h; rw [if_pos ⟨rfl, rfl⟩, if_pos ⟨rfl, rfl⟩, Nat.one_mul]
  · rw [if_neg h, if_neg fun h' => h ⟨(recv_eq h'.1).1.symm, (recv_eq h'.1).2.symm⟩, Nat.zero_mul]

theorem count_bar : ∀ c : Fin 8, (∑ b : Fin 8, ∑ d ∈ paid, if b + d = c then 1 else 0) = 7 := by decide
theorem count_recv : ∀ c e : Fin 8, e ≠ 0 → (∑ b : Fin 8, ∑ d ∈ paid, if b + d = c ∧ d = e then 1 else 0) = 1 := by decide

theorem launch_bar (c : Dev nD) :
    tallyOn (barCell c) (launchCredit (Pipeline.owing due) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun b _ => due_bar b c]
  exact count_bar c
theorem launch_recv (c : Dev nD) (e : Fin 8) (h : e ≠ 0) :
    tallyOn (recvCell c e) (launchCredit (Pipeline.owing due) 0 (recvCell c e)) = (tallyAt (recvCell c e) () N : CellTallies nD τ sig Unit) := by
  unfold tallyAt; refine congrArg _ (Finsupp.ext fun u => ?_); cases u
  rw [Pipeline.launchCredit_owing, Finsupp.single_eq_same, Finset.sum_congr rfl fun b _ => due_recv b c e, ← Finset.sum_mul]
  exact (congrArg (· * N) (count_recv c e h)).trans (Nat.one_mul _)

/-- The receive semaphores of the distances to another device. -/
def recvEmb : Fin 8 ↪ SemLoc sig := ⟨fun d => .dma (recvSem d), fun d e h => by
  have h' : csem (some (true, d)) = csem (some (true, e)) := h
  injection csem_injective h' with h; exact congrArg Prod.snd h⟩

theorem creds (c : Dev nD) : (Pipeline.launchCred due c : sProp 𝕄) ⊢ owedTo (F := F) c := by
  unfold Pipeline.launchCred owedTo Rc
  rw [bigSep_univ_at _ (SemLoc.reg barS), launch_bar]
  refine sep_mono_right ?_
  have hsub : far.map recvEmb ⊆ Finset.univ.erase (SemLoc.reg barS) := by
    intro s hs
    obtain ⟨d, -, rfl⟩ := Finset.mem_map.mp hs
    exact Finset.mem_erase.mpr ⟨fun h => by
      have h' : csem (some (true, d)) = csem none := h
      exact absurd (csem_injective h') (by simp), Finset.mem_univ _⟩
  refine (BI.bigSep_subset hsub).trans ?_
  rw [bigSep_map]
  exact Entails.of_eq (bigSep_congr fun d hd => congrArg cred (launch_recv c d (Finset.mem_erase.mp hd).1))

/-! ## The run -/

theorem start_intro (c : Dev nD) :
    iprop(Pipeline.unscopedRestP Pipeline.Prefetch.none cfg0.spec c (fun b => m ((c : Thread nD τ).loc b)) ∗ levAts L lv
        ∗ Pipeline.launchCred due c ∗ prngReg c (ρ c) ∗ G' m c)
      ⊢ |={Set.univ}=> iprop(start m c ∗ emp) := by
  rw [Pipeline.unscopedRestP_none, unscopedRest0_eq]
  iintro ⟨Ha, Hlev, Hcr, -, HG⟩
  ihave Hc := (creds (F := F) c) $$ Hcr
  imodintro
  unfold start G' arrays
  isplitl
  · isplitl [HG]; · iexact HG
    isplitl [Hc]; · iexact Hc
    isplitl [Hlev] <;> iassumption
  · iempintro

theorem first_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = first m c from rfl, scopedRest0_eq]
  unfold first scratch
  iintro ⟨Hs, -, Hr⟩
  isplitl [Hs] <;> iassumption

theorem last_elim (c : Dev nD) :
    (dats m 0 c).Φ (Fin.last cfg0.N)
      ⊢ iprop((unscopedSems0 c ∗ results m c) ∗ Pipeline.ownSems0 osem c ∗ Pipeline.scopedRest cfg0.spec c) := by
  rw [show (dats m 0 c).Φ (Fin.last cfg0.N) = last m c from rfl, scopedRest0_eq]
  unfold last scratch
  iintro ⟨Hr, Hl, Hs, Ho⟩
  ihave H := (sems_back (F := F) c) $$ [Hl Hs]
  · isplitl [Hl] <;> iassumption
  icases H with ⟨Hu, Ho'⟩
  isplitl [Hu Ho]
  · isplitl [Hu] <;> iassumption
  isplitl [Ho'] <;> iassumption

theorem waits (c : Dev nD) : (levAts L lv : sProp 𝕄) ⊢ Pipeline.cellsWaits cfgs (dats m) () 0 c :=
  Pipeline.cellsWaits_intro cfgs (dats m) () 0 c fun w s t => w.elim0

/-- What device `c` ends in: its arguments as they were, its result filled. -/
def Ends (c : Dev nD) (μ : MemSt nD τ sig (Elt F)) : Prop :=
  μ.mem ((c : Thread nD τ).loc main_arg0) = m ((c : Thread nD τ).loc main_arg0)
    ∧ μ.mem ((c : Thread nD τ).loc main_arg1) = m ((c : Thread nD τ).loc main_arg1)
    ∧ Filled m c (μ.mem ((c : Thread nD τ).loc main_v1))

/-- A held buffer's contents are what the state has there. -/
theorem read_held (s' : Phys nD τ sig (Elt F)) (ℓ : Loc nD τ sig) (f : Buf (Elt F) ℓ) :
    iprop(SI s' ∗ ℓ ↦{fullShare} f) ⊢ (⌜s'.mem.mem ℓ = f⌝ : sProp 𝕄) := by
  iintro H
  ihave %h := (SI_pointsTo_agree (st := s') (ℓ := ℓ) (I := Finset.univ) (q := fullShare) (f := f)) $$ H
  ipureintro; exact funext fun i => h i (Finset.mem_univ i)

theorem ends_read (c : Dev nD) (s' : Phys nD τ sig (Elt F)) :
    iprop((unscopedSems0 c ∗ results m c) ∗ emp ∗ SI s')
      ⊢ (|={Set.univ}=> iprop(⌜(∀ sm : SemLoc sig, sm.isScoped .tc = false → s'.mem.sem ((c.tc : Thread nD τ), sm) = 0) ∧ Ends m c s'.mem⌝ ∗ SI s') : sProp 𝕄) := by
  unfold results
  iintro ⟨⟨Hu, H0, H1, ⟨%X, %hX, H2⟩⟩, -, HSI⟩
  ihave %h0 := (read_held s' ((c : Thread nD τ).loc main_arg0) _) $$ [HSI H0]
  · isplitl [HSI] <;> iassumption
  ihave %h1 := (read_held s' ((c : Thread nD τ).loc main_arg1) _) $$ [HSI H1]
  · isplitl [HSI] <;> iassumption
  ihave %h2 := (read_held s' ((c : Thread nD τ).loc main_v1) X) $$ [HSI H2]
  · isplitl [HSI] <;> iassumption
  imod (Pipeline.unscopedSems0_read (X := unscopedSems0 c) (c := c) fupd_intro s') $$ [Hu HSI] with ⟨%hs, HSI⟩
  · isplitl [Hu] <;> iassumption
  imodintro
  isplitr
  · ipureintro
    exact ⟨hs, h0, h1, by rw [h2]; exact hX⟩
  iexact HSI

/-- The memory the run starts in. -/
abbrev s₀ : MemSt nD τ sig (Elt F) := ⟨m, fun _ => 0, ρ⟩

set_option maxRecDepth 8000 in
/-- Every weakly fair run of the eight devices, from any memory with every counter at zero, terminates, its arguments
    unchanged, every result filled and every counter at zero. -/
theorem run_main : θ_run defs (onTc (τ := τ) (main (F := F))) (s₀ m ρ) (fun r => (∀ c, Ends m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun c w => w.elim0)
    (hdistinct := winFacts0.arr_inj)
    (O₀ := due) (howed₀ := fun _ => rfl) (howedN := fun _ => rfl)
    (L := L) (lv := lv) (hL := L_of_ne) (hwaits := waits m)
    (G := G m) (G' := G' m) (u₀ := u₀)
    (hu₀ := by
      have hR : BI.own ((embR : Emb (UB × Counters) 𝕄) (initOf allCells allToks, 1)) ⊢ BI.own ((ER : Emb UB 𝕄) (initOf allCells allToks)) := BI.Entails.refl _
      unfold u₀
      iintro Hu
      ihave H := (ownU_pair _ _) $$ Hu
      icases H with ⟨HP, HX⟩
      ihave HX := hR $$ HX
      imod (fund m) $$ HX with HG
      imodintro
      isplitl [HP] <;> iassumption)
    (hglob := glob m)
    (hA := fun _ w => w.elim0) (hpf := fun _ k => k.elim0)
    (X := start m) (Y := fun c => iprop(unscopedSems0 c ∗ results m c)) (Z := fun _ => iprop(emp))
    (hX := start_intro m ρ) (hin := first_intro m) (hout := last_elim m)
    (QY := fun c s => (∀ sm : SemLoc sig, sm.isScoped .tc = false → s.sem ((c.tc : Thread nD τ), sm) = 0) ∧ Ends m c s)
    (hY := fun c s' => ends_read m c s')
    (hQ := fun _ h hs => ⟨fun c => (h c).2.2.2, sem_eq_zero hs fun c => (h c).2.2.1⟩)

end Cert.KernelProof

end
-- ==== Proof.Gate.lean ====
/-
# The gate over the extended reals, and where it meets the reference's clipped form

The kernel multiplies a product entry by its logistic. The reference divides it by one plus the exponential of the
negated entry, the entry clipped to [-60, 60] inside the exponential. On entries inside the clip's range the two agree.
-/
module

public import Idealize.ShloMosaic.Lib.IdealHost

@[expose] public section

noncomputable section

namespace Cert.KernelProof

open Idealize.ShloMosaic

/-- `y * logistic y`, with the logistic spelt out. -/
def gate (y : EReal) : EReal := y * Ideal.div 1 (1 + Ideal.exp (-y))
/-- The quotient with the clip inside the exponential. -/
def clipped (y : EReal) : EReal := Ideal.div y (1 + Ideal.exp (-(min ((60 : ℝ) : EReal) (max ((-60 : ℝ) : EReal) y))))

/-- One plus an exponential of a real is not zero. -/
theorem one_add_exp_ne_zero (r : ℝ) : (1 : EReal) + Ideal.exp (r : EReal) ≠ 0 := by
  have h : (1 : EReal) + Ideal.exp (r : EReal) = ((1 + Real.exp r : ℝ) : EReal) := by
    rw [Ideal.exp_coe]; norm_cast
  rw [h]
  have hp := Real.exp_pos r
  exact fun e => by
    have := EReal.coe_eq_zero.mp e
    linarith

/-- Inside the clip's range the clip does nothing and the two forms agree. -/
theorem clipped_eq_gate {y : EReal} (h : max y (-y) ≤ ((60 : ℝ) : EReal)) : clipped y = gate y := by
  have h1 : y ≤ ((60 : ℝ) : EReal) := (le_max_left _ _).trans h
  have h2 : ((-60 : ℝ) : EReal) ≤ y := by
    have := EReal.neg_le_neg_iff.mpr ((le_max_right _ _).trans h)
    rwa [neg_neg, ← EReal.coe_neg] at this
  unfold clipped gate
  rw [max_eq_right h2, min_eq_right h1]
  induction y with
  | bot => exact absurd h2 (by simp)
  | top => exact absurd h1 (by simp)
  | coe r =>
    rw [Ideal.mul_one_div]
    rw [← EReal.coe_neg]
    exact one_add_exp_ne_zero _

/-- The two ends of the clip, as their bits. -/
theorem ofBits_sixty : Ideal.ofBits .f32 0x42700000#32 = ((60 : ℝ) : EReal) := by
  simp [Ideal.ofBits, Ideal.ieee, -EReal.coe_mul]; norm_num
theorem ofBits_neg_sixty : Ideal.ofBits .f32 0xC2700000#32 = ((-60 : ℝ) : EReal) := by
  simp [Ideal.ofBits, Ideal.ieee, -EReal.coe_mul, -EReal.coe_neg]; norm_num

end Cert.KernelProof

end
-- ==== Proof.Value.lean ====
/-
# What the kernel's result is, entry by entry

Over the extended reals the format changes vanish, so each block a device computes is the gate of a block of the
product. Collected over the eight senders, device `c`'s result is column block `c` of the gate of the whole product.
-/
module

public import proofs.«01_k».proof.Proof.Device
public import proofs.«01_k».proof.Proof.Gate
public import Idealize.ShloMosaic.Lib.MatmulPlain
public import Idealize.ShloMosaic.Lib.Layout

@[expose] public section

noncomputable section

namespace Cert.KernelProof

open Cert.KernelIdeal Cert.KernelIdeal.Gen
open Idealize.ShloMosaic Idealize.ShloMosaic.TcCoe Idealize.ShloMosaic.ValueIdx
open scoped BigOperators

/-- An entry of the product of the whole arrays. -/
def prod (A B : FVec Ideal ⟨2, ![2048, 2048]⟩ .f32) (i j : Fin 2048) : EReal := ∑ k : Fin 2048, A (ix2 i k) * B (ix2 k j)

/-- A block's entry is the gate of the product's entry. -/
theorem chunk_apply (x : FVec Ideal ⟨2, ![256, 2048]⟩ .f32) (w : FVec Ideal ⟨2, ![2048, 256]⟩ .f32) (r l : Fin 256) :
    chunk (F := Ideal) x w (ix2 r l) = gate (∑ k : Fin 2048, x (ix2 r k) * w (ix2 k l)) := by
  have h : matmul (F := Ideal) dot_S256x2048_S2048x256_S256x256_1_0_0_1_n_n none (truncf .bf16 x bitsLt_bf16_f32)
      (truncf .bf16 w bitsLt_bf16_f32) (constant S256x256 .f32 0x00000000#32) (ix2 r l)
      = (∑ k : Fin 2048, x (ix2 r k) * w (ix2 k l) : EReal) := by
    refine (Ideal.matmul_plain_apply (M := 256) (K := 2048) (N := 256) none (truncf .bf16 x bitsLt_bf16_f32)
      (truncf .bf16 w bitsLt_bf16_f32) (constant S256x256 .f32 0x00000000#32) r l).trans ?_
    show (Ideal.ofBits .f32 0x00000000#32 : EReal) + _ = _
    rw [Ideal.ofBits_zero_f32, zero_add]
    rfl
  show (_ : EReal) * Ideal.logistic _ = _
  rw [h]
  rfl

variable (m : (ℓ : Loc nD τ sig) → Buf (Elt Ideal) ℓ)

/-- A column block of `w` reads `w` at the block's columns. -/
theorem win_apply (c : Dev nD) (r : Fin 8) (k : Fin 2048) (l : Fin 256) (j : Fin 2048)
    (hj : j.val = 256 * ((c.val + r.val + 1) % 8) + l.val) :
    win m c r (ix2 k l) = m ((c : Thread nD τ).loc main_arg1) (ix2 k j) := by
  show m ((c : Thread nD τ).loc main_arg1) ((wRect c r).emb (ix2 k l)) = _
  congr 1
  have ho : (wRect c r).off = ![0, 256 * ((c.val + r.val + 1) % 8)] := k0_off1_eq c r
  funext a
  apply Fin.ext
  match a with
  | ⟨0, _⟩ =>
    show (wRect c r).off 0 + 1 * k.val = k.val
    rw [ho]; show 0 + 1 * k.val = k.val; omega
  | ⟨1, _⟩ =>
    show (wRect c r).off 1 + 1 * l.val = j.val
    rw [ho, hj]; show 256 * ((c.val + r.val + 1) % 8) + 1 * l.val = _; omega

/-- The distance a sender's block travels brings it to the columns of the device it lands on. -/
theorem column_of (c q : Dev nD) : (q.val + ((c : Fin 8) - q - 1 : Fin 8).val + 1) % 8 = c.val := by
  revert c q; decide

/-- A result filled by the eight senders is, on device `c`, column block `c` of any whole array that is the gate of
the product entry by entry. -/
theorem filled_block {A B : FVec Ideal ⟨2, ![2048, 2048]⟩ .f32} {V : (⟨2, ![2048, 2048]⟩ : Shape).Idx → EReal}
    (hA : ∀ q : Dev nD, m ((q : Thread nD τ).loc main_arg0) = Layout.block ⟨2, ![256, 2048]⟩ ⟨2, ![2048, 2048]⟩ 0 8 q A)
    (hB : ∀ q : Dev nD, m ((q : Thread nD τ).loc main_arg1) = B)
    (hV : ∀ i j : Fin 2048, V (ix2 i j) = gate (prod A B i j))
    (c : Dev nD) (X : Buf (Elt Ideal) ((c : Thread nD τ).loc main_v1)) (hX : Filled m c X) :
    X = Layout.block ⟨2, ![2048, 256]⟩ ⟨2, ![2048, 2048]⟩ 1 8 c V := by
  funext i
  obtain ⟨a, l, rfl⟩ : ∃ (a : Fin 2048) (l : Fin 256), i = ix2 a l := ⟨i 0, i 1, eq_ix2 i⟩
  have hc : c.val < 8 := c.isLt
  have ha := a.isLt
  have hl := l.isLt
  let q : Dev nD := (⟨a.val / 256, by omega⟩ : Fin 8)
  let r : Fin 256 := ⟨a.val % 256, Nat.mod_lt _ (by decide)⟩
  let j : Fin 2048 := ⟨c.val * 256 + l.val, by omega⟩
  have hq : q.val = a.val / 256 := rfl
  have hin : (oRect q).emb (ix2 r l) = ix2 a l := by
    have ho : (oRect q).off = ![256 * q.val, 0] := k0_off2_eq q
    funext b
    apply Fin.ext
    match b with
    | ⟨0, _⟩ =>
      show (oRect q).off 0 + 1 * (a.val % 256) = a.val
      rw [ho]; show 256 * (a.val / 256) + 1 * (a.val % 256) = a.val; omega
    | ⟨1, _⟩ =>
      show (oRect q).off 1 + 1 * l.val = l.val
      rw [ho]; show 0 + 1 * l.val = l.val; omega
  have hout : (Layout.block ⟨2, ![2048, 256]⟩ ⟨2, ![2048, 2048]⟩ 1 8 c V : _ → EReal) (ix2 a l) = V (ix2 a j) := by
    rw [Layout.block_apply]
    congr 1
    funext b
    apply Fin.ext
    match b with
    | ⟨0, _⟩ => rfl
    | ⟨1, _⟩ => rfl
  have hx := congrFun (hX q) (ix2 r l)
  refine Eq.trans (?_ : X (ix2 a l) = X ((oRect q).emb (ix2 r l))) (hx.trans ?_)
  · rw [hin]
  refine (chunk_apply _ _ r l).trans (Eq.trans ?_ hout.symm)
  rw [hV]
  refine congrArg gate (Finset.sum_congr rfl fun k _ => ?_)
  have hw : win m q ((c : Fin 8) - q - 1) (ix2 k l) = B (ix2 k j) := by
    rw [win_apply m q _ k l j (by rw [column_of]; show c.val * 256 + l.val = _; omega), hB]
  have hxin : xin m q (ix2 r k) = A (ix2 a k) := by
    show m ((q : Thread nD τ).loc main_arg0) (ix2 r k) = _
    rw [hA, Layout.block_apply]
    congr 1
    funext b
    apply Fin.ext
    match b with
    | ⟨0, _⟩ => show a.val / 256 * 256 + a.val % 256 = a.val; omega
    | ⟨1, _⟩ => rfl
  rw [hw, hxin]

end Cert.KernelProof

end
-- ==== Proof.Reference.lean ====
/-
# The two reference programs' results, entry by entry, and what the precondition says
-/
module

public import proofs.«01_k».proof.Proof.Value
public import proofs.«01_k».proof.Proof.Gen.ReferenceIdeal.Run
public import proofs.«01_k».proof.Proof.Gen.UnclippedIdeal.Run
public import proofs.«01_k».proof.Proof.Gen.Pre_within_clip_KernelIdeal
public import Idealize.ShloMosaic.Lib.ReduceAll
public import Idealize.ShloMosaic.Lib.StackMember

@[expose] public section

noncomputable section

namespace Cert.KernelProof

open Idealize.ShloMosaic Idealize.ShloMosaic.TcCoe Idealize.ShloMosaic.ValueIdx
open scoped BigOperators

/-- The whole product read at an entry. -/
theorem dot_apply (A B : FVec Ideal ⟨2, ![2048, 2048]⟩ .f32) (i j : Fin 2048) :
    Host.dotGeneral (DotDims.plain 2048 2048 2048) none A B (ix2 i j) = prod A B i j :=
  StackMember.dotGeneral_plain_apply none A B i j

/-- The reference's whole result: the clipped quotient of each entry of the product. -/
def clippedOut (A B : FVec Ideal ⟨2, ![2048, 2048]⟩ .f32) : (⟨2, ![2048, 2048]⟩ : Shape).Idx → EReal :=
  fun i => clipped (prod A B (i 0) (i 1))
/-- The unclipped whole result: the gate of each entry of the product. -/
def gateOut (A B : FVec Ideal ⟨2, ![2048, 2048]⟩ .f32) : (⟨2, ![2048, 2048]⟩ : Shape).Idx → EReal :=
  fun i => gate (prod A B (i 0) (i 1))

/-- The reference's result is the clipped quotient of the product's entry. -/
theorem reference_apply (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => r.2.mem (((0 : Dev Cert.ReferenceIdeal.nD).tc : Thread Cert.ReferenceIdeal.nD Cert.ReferenceIdeal.τ).loc Cert.ReferenceIdeal.main_v7)
        = clippedOut (m (((0 : Dev Cert.ReferenceIdeal.nD).tc : Thread Cert.ReferenceIdeal.nD Cert.ReferenceIdeal.τ).loc Cert.ReferenceIdeal.main_arg0))
            (m (((0 : Dev Cert.ReferenceIdeal.nD).tc : Thread Cert.ReferenceIdeal.nD Cert.ReferenceIdeal.τ).loc Cert.ReferenceIdeal.main_arg1))
        ∧ r.2.mem (((0 : Dev Cert.ReferenceIdeal.nD).tc : Thread Cert.ReferenceIdeal.nD Cert.ReferenceIdeal.τ).loc Cert.ReferenceIdeal.main_arg0) = m (((0 : Dev Cert.ReferenceIdeal.nD).tc : Thread Cert.ReferenceIdeal.nD Cert.ReferenceIdeal.τ).loc Cert.ReferenceIdeal.main_arg0)
        ∧ r.2.mem (((0 : Dev Cert.ReferenceIdeal.nD).tc : Thread Cert.ReferenceIdeal.nD Cert.ReferenceIdeal.τ).loc Cert.ReferenceIdeal.main_arg1) = m (((0 : Dev Cert.ReferenceIdeal.nD).tc : Thread Cert.ReferenceIdeal.nD Cert.ReferenceIdeal.τ).loc Cert.ReferenceIdeal.main_arg1)) := by
  refine (θ_run Cert.ReferenceIdeal.defs _ _).mono (fun r h => ⟨((h 0).1).trans ?_, (h 0).2⟩) (Cert.ReferenceIdeal.Value.run (F := Ideal) m ρ)
  funext i
  obtain ⟨a, b, rfl⟩ : ∃ (a b : Fin 2048), i = ix2 a b := ⟨i 0, i 1, eq_ix2 i⟩
  have hd := dot_apply (m (((0 : Dev Cert.ReferenceIdeal.nD).tc : Thread Cert.ReferenceIdeal.nD Cert.ReferenceIdeal.τ).loc Cert.ReferenceIdeal.main_arg0))
    (m (((0 : Dev Cert.ReferenceIdeal.nD).tc : Thread Cert.ReferenceIdeal.nD Cert.ReferenceIdeal.τ).loc Cert.ReferenceIdeal.main_arg1)) a b
  show Ideal.div (Host.dotGeneral (F := Ideal) (φ₁ := .f32) (φ₂ := .f32) (DotDims.plain 2048 2048 2048) none _ _ (ix2 a b))
      ((Ideal.ofBits .f32 0x3F800000#32 : EReal) + Ideal.exp (-(min (Ideal.ofBits .f32 0x42700000#32 : EReal)
        (max (Ideal.ofBits .f32 0xC2700000#32 : EReal) (Host.dotGeneral (F := Ideal) (φ₁ := .f32) (φ₂ := .f32) (DotDims.plain 2048 2048 2048) none _ _ (ix2 a b)))))) = _
  rw [Ideal.ofBits_one_f32, ofBits_sixty, ofBits_neg_sixty, hd]
  rfl

/-- The unclipped program's result is the gate of the product's entry. -/
theorem unclipped_apply (m : (ℓ : Loc Cert.UnclippedIdeal.nD Cert.UnclippedIdeal.τ Cert.UnclippedIdeal.sig) → Buf (Elt Ideal) ℓ)
    (ρ : Dev Cert.UnclippedIdeal.nD → PrngReg) :
    θ_run (Cert.UnclippedIdeal.defs (F := Ideal)) (onTc (τ := Cert.UnclippedIdeal.τ) (Cert.UnclippedIdeal.main (F := Ideal))) ⟨m, fun _ => 0, ρ⟩
      (fun r => r.2.mem (((0 : Dev Cert.UnclippedIdeal.nD).tc : Thread Cert.UnclippedIdeal.nD Cert.UnclippedIdeal.τ).loc Cert.UnclippedIdeal.main_v8)
        = gateOut (m (((0 : Dev Cert.UnclippedIdeal.nD).tc : Thread Cert.UnclippedIdeal.nD Cert.UnclippedIdeal.τ).loc Cert.UnclippedIdeal.main_arg0))
            (m (((0 : Dev Cert.UnclippedIdeal.nD).tc : Thread Cert.UnclippedIdeal.nD Cert.UnclippedIdeal.τ).loc Cert.UnclippedIdeal.main_arg1))
        ∧ r.2.mem (((0 : Dev Cert.UnclippedIdeal.nD).tc : Thread Cert.UnclippedIdeal.nD Cert.UnclippedIdeal.τ).loc Cert.UnclippedIdeal.main_arg0) = m (((0 : Dev Cert.UnclippedIdeal.nD).tc : Thread Cert.UnclippedIdeal.nD Cert.UnclippedIdeal.τ).loc Cert.UnclippedIdeal.main_arg0)
        ∧ r.2.mem (((0 : Dev Cert.UnclippedIdeal.nD).tc : Thread Cert.UnclippedIdeal.nD Cert.UnclippedIdeal.τ).loc Cert.UnclippedIdeal.main_arg1) = m (((0 : Dev Cert.UnclippedIdeal.nD).tc : Thread Cert.UnclippedIdeal.nD Cert.UnclippedIdeal.τ).loc Cert.UnclippedIdeal.main_arg1)) := by
  refine (θ_run Cert.UnclippedIdeal.defs _ _).mono (fun r h => ⟨((h 0).1).trans ?_, (h 0).2⟩) (Cert.UnclippedIdeal.Value.run (F := Ideal) m ρ)
  funext i
  obtain ⟨a, b, rfl⟩ : ∃ (a b : Fin 2048), i = ix2 a b := ⟨i 0, i 1, eq_ix2 i⟩
  have hd := dot_apply (m (((0 : Dev Cert.UnclippedIdeal.nD).tc : Thread Cert.UnclippedIdeal.nD Cert.UnclippedIdeal.τ).loc Cert.UnclippedIdeal.main_arg0))
    (m (((0 : Dev Cert.UnclippedIdeal.nD).tc : Thread Cert.UnclippedIdeal.nD Cert.UnclippedIdeal.τ).loc Cert.UnclippedIdeal.main_arg1)) a b
  show (Host.dotGeneral (F := Ideal) (φ₁ := .f32) (φ₂ := .f32) (DotDims.plain 2048 2048 2048) none _ _ (ix2 a b) : EReal) * Ideal.div (Ideal.ofBits .f32 0x3F800000#32 : EReal)
      ((Ideal.ofBits .f32 0x3F800000#32 : EReal) + Ideal.exp (-(Host.dotGeneral (F := Ideal) (φ₁ := .f32) (φ₂ := .f32) (DotDims.plain 2048 2048 2048) none _ _ (ix2 a b)))) = _
  rw [Ideal.ofBits_one_f32, hd]
  rfl

/-- The precondition on one device's blocks bounds every entry of that device's rows of the product. -/
theorem within_clip_apply (x : FVec Ideal ⟨2, ![256, 2048]⟩ .f32) (w : FVec Ideal ⟨2, ![2048, 2048]⟩ .f32)
    (h : Cert.Pre_within_clip_KernelIdeal.fn (F := Ideal) x w = fun _ => 1#1) (r : Fin 256) (j : Fin 2048) :
    max (∑ k : Fin 2048, x (ix2 r k) * w (ix2 k j)) (-(∑ k : Fin 2048, x (ix2 r k) * w (ix2 k j))) ≤ ((60 : ℝ) : EReal) := by
  have : Subsingleton Cert.Pre_within_clip_KernelIdeal.S_.Idx := ⟨fun a b => funext fun i => i.elim0⟩
  have e := Host.reduce_andi_all _ _ _ _ _ (congrFun h ix0) (ix2 r j)
  have e : Ideal.cmp .ole (max (Host.dotGeneral (DotDims.plain 256 2048 2048) none x w (ix2 r j))
      (-(Host.dotGeneral (DotDims.plain 256 2048 2048) none x w (ix2 r j) : EReal))) (Ideal.ofBits .f32 0x42700000#32) = 1#1 := e
  rw [StackMember.dotGeneral_plain_apply, ofBits_sixty] at e
  by_contra hn
  rw [Ideal.cmp, decide_eq_false hn] at e
  exact absurd e (by decide)

/-- The whole product's row `i` is a row of the device that holds it. -/
theorem prod_row {A B : FVec Ideal ⟨2, ![2048, 2048]⟩ .f32} (x : Fin 8 → FVec Ideal ⟨2, ![256, 2048]⟩ .f32) (w : Fin 8 → FVec Ideal ⟨2, ![2048, 2048]⟩ .f32)
    (hx : ∀ q, x q = Layout.block ⟨2, ![256, 2048]⟩ ⟨2, ![2048, 2048]⟩ 0 8 q A) (hw : ∀ q, w q = B)
    (h : ∀ q, Cert.Pre_within_clip_KernelIdeal.fn (F := Ideal) (x q) (w q) = fun _ => 1#1) (i j : Fin 2048) :
    max (prod A B i j) (-(prod A B i j)) ≤ ((60 : ℝ) : EReal) := by
  have hi := i.isLt
  let q : Fin 8 := ⟨i.val / 256, by omega⟩
  let r : Fin 256 := ⟨i.val % 256, Nat.mod_lt _ (by decide)⟩
  have hrow (k : Fin 2048) : x q (ix2 r k) = A (ix2 i k) := by
    rw [hx, Layout.block_apply]
    congr 1
    funext b
    apply Fin.ext
    match b with
    | ⟨0, _⟩ => show i.val / 256 * 256 + i.val % 256 = i.val; omega
    | ⟨1, _⟩ => rfl
  have e : prod A B i j = ∑ k : Fin 2048, x q (ix2 r k) * w q (ix2 k j) :=
    Finset.sum_congr rfl fun k _ => by rw [hrow, hw]
  rw [e]
  exact within_clip_apply (x q) (w q) (h q) r j

end Cert.KernelProof

end
-- ==== Proof.lean ====
/-
# The proof of `Cert.Claim`

The kernel's run is proved once for any float values (Proof/Run.lean) and read at both; its value over the extended reals
is Proof/Value.lean, the reference programs' values Proof/Reference.lean.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.ReferenceIdeal
public import proofs.«01_k».proof.Proof.Gen.ReferenceIdeal.Run
public import proofs.«01_k».proof.Proof.Gen.UnclippedIdeal
public import proofs.«01_k».proof.Proof.Gen.UnclippedIdeal.Run
public import proofs.«01_k».proof.Proof.Gen.Pre_within_clip_KernelIdeal
public import proofs.«01_k».proof.Proof.Gen.Pre_within_clip_ReferenceIdeal
public import proofs.«01_k».proof.Proof.Run
public import proofs.«01_k».proof.Proof.Value
public import proofs.«01_k».proof.Proof.Reference
public import Idealize.ShloMosaic.Adequacy
public import Idealize.ShloMosaic.Init

@[expose] public section

noncomputable section

namespace Cert.Proof

open Idealize.ShloMosaic Idealize.ShloMosaic.TcCoe Idealize.SL.Sem Cert.KernelProof Idealize.ShloMosaic.ValueIdx

/-! ## Every program runs, keeps its arguments, and ends with every counter at zero -/

/-- The kernel at bit-exact values: the run proved for any float values. -/
theorem frame_kernel : Cert.quiescent_Kernel := fun m ρ _ =>
  (θ_run Cert.KernelIdeal.defs _ _).mono (fun _ h => ⟨fun c => ⟨(h.1 c).1, (h.1 c).2.1⟩, h.2⟩) (run_main (F := Bits) m ρ)

/-- The kernel at ideal values: the same run. -/
theorem frame_kernelIdeal : Cert.quiescent_KernelIdeal := fun m ρ _ =>
  (θ_run Cert.KernelIdeal.defs _ _).mono (fun _ h => ⟨fun c => ⟨(h.1 c).1, (h.1 c).2.1⟩, h.2⟩) (run_main (F := Ideal) m ρ)

/-- The same frame under the precondition, which it does not need. -/
theorem frame_kernelIdeal_pre : Cert.quiescent_KernelIdeal_pre_within_clip_KernelIdeal := fun m ρ _ =>
  frame_kernelIdeal m ρ trivial

/-- The reference, which has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference's frame under its precondition, which it does not need. -/
theorem frame_reference_pre : Cert.quiescent_ReferenceIdeal_pre_within_clip_ReferenceIdeal := fun m ρ _ =>
  frame_reference m ρ trivial

/-- The unclipped program, which has no semaphore. -/
theorem frame_unclipped : Cert.quiescent_UnclippedIdeal := fun m ρ _ =>
  (θ_run Cert.UnclippedIdeal.defs _ _).mono (fun r h => ⟨fun c => (h c).2, sem_eq_zero_of_no_sems (by decide) r.2⟩)
    (Cert.UnclippedIdeal.Value.run (F := Ideal) m ρ)

/-! ## The kernel's value -/

/-- From memories that hold the whole arrays' parts, the kernel ends with its part of any whole array that is the gate
of the product entry by entry. -/
theorem kernel_value (m : (ℓ : Loc Cert.KernelIdeal.nD Cert.KernelIdeal.τ Cert.KernelIdeal.sig) → Buf (Elt Ideal) ℓ)
    (ρ : Dev Cert.KernelIdeal.nD → PrngReg) {A B : FVec Ideal ⟨2, ![2048, 2048]⟩ .f32}
    {V : (⟨2, ![2048, 2048]⟩ : Shape).Idx → EReal}
    (hag : ∀ c : Dev Cert.KernelIdeal.nD,
      m ((c.tc : Thread Cert.KernelIdeal.nD Cert.KernelIdeal.τ).loc Cert.KernelIdeal.main_arg0) = Layout.block ⟨2, ![256, 2048]⟩ ⟨2, ![2048, 2048]⟩ 0 8 c A
      ∧ m ((c.tc : Thread Cert.KernelIdeal.nD Cert.KernelIdeal.τ).loc Cert.KernelIdeal.main_arg1) = B)
    (hV : ∀ i j : Fin 2048, V (ix2 i j) = gate (prod A B i j)) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v1) = Layout.block ⟨2, ![2048, 256]⟩ ⟨2, ![2048, 2048]⟩ 1 8 c V
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)) :=
  (θ_run Cert.KernelIdeal.defs _ _).mono
    (fun _ h c => ⟨filled_block m (fun q => (hag q).1) (fun q => (hag q).2) hV c _ (h.1 c).2.2, (h.1 c).1, (h.1 c).2.1⟩)
    (run_main (F := Ideal) m ρ)

/-- Against the reference, on inputs whose product stays inside the clip's range. -/
theorem value_reference : Cert.algebraic_KernelIdeal_ReferenceIdeal_pre_within_clip_KernelIdeal := by
  intro m ρ m' ρ' hpre hag
  refine ⟨clippedOut (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    kernel_value m ρ hag (fun i j => clipped_eq_gate ?_), reference_apply m' ρ'⟩
  exact prod_row (fun q => m ((Dev.tc (nD := Cert.KernelIdeal.nD) q : Thread Cert.KernelIdeal.nD Cert.KernelIdeal.τ).loc Cert.KernelIdeal.main_arg0))
    (fun q => m ((Dev.tc (nD := Cert.KernelIdeal.nD) q : Thread Cert.KernelIdeal.nD Cert.KernelIdeal.τ).loc Cert.KernelIdeal.main_arg1))
    (fun q => (hag q).1) (fun q => (hag q).2) (fun q => hpre q) i j

/-- Against the unclipped program, on every input. -/
theorem value_unclipped : Cert.algebraic_KernelIdeal_UnclippedIdeal := by
  intro m ρ m' ρ' _ hag
  exact ⟨gateOut (m' (((0 : Dev Cert.UnclippedIdeal.nD).tc : Thread Cert.UnclippedIdeal.nD Cert.UnclippedIdeal.τ).loc Cert.UnclippedIdeal.main_arg0))
      (m' (((0 : Dev Cert.UnclippedIdeal.nD).tc : Thread Cert.UnclippedIdeal.nD Cert.UnclippedIdeal.τ).loc Cert.UnclippedIdeal.main_arg1)),
    kernel_value m ρ hag (fun _ _ => rfl), unclipped_apply m' ρ'⟩

theorem claim : Cert.Claim :=
  ⟨Cert.Kernel.Gen.facts, Cert.KernelIdeal.Gen.facts, Cert.ReferenceIdeal.Gen.facts, Cert.UnclippedIdeal.Gen.facts,
    Cert.Pre_within_clip_KernelIdeal.Gen.facts, Cert.Pre_within_clip_ReferenceIdeal.Gen.facts,
    frame_kernel, frame_kernelIdeal, frame_kernelIdeal_pre, frame_reference, frame_reference_pre, frame_unclipped, trivial,
    value_reference, value_unclipped⟩

end Cert.Proof

end
